-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_moments [hPre_normal_moments : Cert.Pre_normal_moments.Facts] (m : (ℓ : Loc Cert.KernelIdeal.nD Cert.KernelIdeal.τ Cert.KernelIdeal.sig) → Buf (Elt Ideal) ℓ) : Prop :=
  ∀ c : Dev Cert.KernelIdeal.nD,
    (Cert.Pre_normal_moments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_normal_moments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_normal_moments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_normal_moments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_moments [hPre_normal_moments : Cert.Pre_normal_moments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_moments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_normal_moments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_normal_moments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_normal_moments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_normal_moments [hKernelIdeal : Cert.KernelIdeal.Facts] [hPre_normal_moments : Cert.Pre_normal_moments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_moments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_normal_moments [hReferenceIdeal : Cert.ReferenceIdeal.Facts] [hPre_normal_moments : Cert.Pre_normal_moments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_moments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log_decay" .f32 0xBD5218EE#32 ((Real.log (15938355 / 16777216) : ℝ) : EReal)
  ∧ IdealRules.named_const.Statement Cert.KernelIdeal.κ "inv_127" .f32 0x3C010204#32 ((1 / 127 : ℝ) : EReal)

def algebraic_KernelIdeal_ReferenceIdeal_pre_normal_moments [hKernelIdeal : Cert.KernelIdeal.Facts] [hReferenceIdeal : Cert.ReferenceIdeal.Facts] [hPre_normal_moments : Cert.Pre_normal_moments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_moments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v85) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_normal_moments : Cert.Pre_normal_moments.Facts),
    quiescent_Kernel (hKernel := hKernel)
    ∧ quiescent_KernelIdeal (hKernelIdeal := hKernelIdeal)
    ∧ quiescent_KernelIdeal_pre_normal_moments (hKernelIdeal := hKernelIdeal) (hPre_normal_moments := hPre_normal_moments)
    ∧ quiescent_ReferenceIdeal (hReferenceIdeal := hReferenceIdeal)
    ∧ quiescent_ReferenceIdeal_pre_normal_moments (hReferenceIdeal := hReferenceIdeal) (hPre_normal_moments := hPre_normal_moments)
    ∧ preserves_Kernel_KernelIdeal
    ∧ algebraic_KernelIdeal_ReferenceIdeal_pre_normal_moments (hKernelIdeal := hKernelIdeal) (hReferenceIdeal := hReferenceIdeal) (hPre_normal_moments := hPre_normal_moments)
-- ==== Pre_normal_moments.lean ====
abbrev S5x128x5120 : Shape := ⟨3, ![5, 128, 5120]⟩
abbrev S5x128x128 : Shape := ⟨3, ![5, 128, 128]⟩
abbrev S5x128x20 : Shape := ⟨3, ![5, 128, 20]⟩
abbrev S5 : Shape := ⟨1, ![5]⟩
abbrev S5x128x20x256 : Shape := ⟨4, ![5, 128, 20, 256]⟩
abbrev S5x128x20x1 : Shape := ⟨4, ![5, 128, 20, 1]⟩
abbrev S_ : Shape := ⟨0, ![]⟩

class Facts : Prop where
  shapeCasts_S5x128x5120_S5x128x20x256 : S5x128x5120.ShapeCasts S5x128x20x256
  transposes_S5x128x128_S5x128x128_0_2_1 : S5x128x128.Transposes [0, 2, 1] S5x128x128
  natLt_8_32 : 8 < 32
  bcast_S5x128x20_S5x128x20x1_0_1_2 : S5x128x20.BroadcastsInDim S5x128x20x1 (![0, 1, 2] : Fin 3 → Fin S5x128x20x1.rank)
  bcast_S5x128x20x1_S5x128x20x256_0_1_2_3 : S5x128x20x1.BroadcastsInDim S5x128x20x256 (![0, 1, 2, 3] : Fin 4 → Fin S5x128x20x256.rank)
  bcast_S_S5x128x20x256 : S_.BroadcastsInDim S5x128x20x256 (![] : Fin 0 → Fin S5x128x20x256.rank)
  reducesTo_S5x128x20x256_S5x128x20_d3 : S5x128x20x256.ReducesTo [3] S5x128x20
  h_S_ : 0 < S_.numel
  bcast_S_S5 : S_.BroadcastsInDim S5 (![] : Fin 0 → Fin S5.rank)
  bcast_S_S5x128x20 : S_.BroadcastsInDim S5x128x20 (![] : Fin 0 → Fin S5x128x20.rank)
  dot_S5x128x128_S5x128x20x256_S5x128x20x256_2_1_1_23_0_0_wf : DotDims.WF S5x128x128 S5x128x20x256 S5x128x20x256 [2] [1] [1] [2, 3] [0] [0]

variable [Facts]

def dot_S5x128x128_S5x128x20x256_S5x128x20x256_2_1_1_23_0_0 : DotDims S5x128x128 S5x128x20x256 S5x128x20x256 where
  lhsContracting := [2]
  rhsContracting := [1]
  lhsNonContracting := [1]
  rhsNonContracting := [2, 3]
  lhsBatch := [0]
  rhsBatch := [0]
  wf := dot_S5x128x128_S5x128x20x256_S5x128x20x256_2_1_1_23_0_0_wf
def fn_part2 {F : FTy → Type} [FloatOps F] (main_v27 : FVec F S5x128x20 .f32) (main_v28 : FVec F S5x128x20 .f32) (main_v30 : IVec S5 1) (main_v32 : IVec S5x128x20x256 1) (main_v37 : IVec S5x128x20x256 1) : IVec S5 1 × IVec S5x128x20x256 1 × IVec S5x128x20 1 × IVec S5x128x20 1 :=
  let main_v38 : IVec S5x128x20x256 1 := ori main_v32 main_v37
  let main_cst_8 : FVec F S_ .f32 := constant S_ .f32 0x00000000#32
  let main_v39 : FVec F S5x128x20 .f32 := broadcastInDim S5x128x20 ![] bcast_S_S5x128x20 main_cst_8
  let main_v40 : IVec S5x128x20 1 := cmpf .oeq main_v27 main_v39
  let main_cst_9 : FVec F S_ .f32 := constant S_ .f32 0x03FE0000#32
  let main_v41 : FVec F S5x128x20 .f32 := broadcastInDim S5x128x20 ![] bcast_S_S5x128x20 main_cst_9
  let main_v42 : IVec S5x128x20 1 := cmpf .oge main_v27 main_v41
  let main_v43 : IVec S5x128x20 1 := ori main_v40 main_v42
  let main_cst_10 : FVec F S_ .f32 := constant S_ .f32 0x00000000#32
  let main_v44 : FVec F S5x128x20 .f32 := broadcastInDim S5x128x20 ![] bcast_S_S5x128x20 main_cst_10
  let main_v45 : IVec S5x128x20 1 := cmpf .oeq main_v28 main_v44
  let main_cst_11 : FVec F S_ .f32 := constant S_ .f32 0x03FE0000#32
  let main_v46 : FVec F S5x128x20 .f32 := broadcastInDim S5x128x20 ![] bcast_S_S5x128x20 main_cst_11
  let main_v47 : IVec S5x128x20 1 := cmpf .oge main_v28 main_v46
  let main_v48 : IVec S5x128x20 1 := ori main_v45 main_v47
  (main_v30, main_v38, main_v43, main_v48)

def fn_part1 {F : FTy → Type} [FloatOps F] (main_arg8 : IVec S5 32) (main_v2 : FVec F S5x128x20x256 .f32) (main_v13 : FVec F S5x128x20x256 .f32) (main_v19 : FVec F S5x128x20x256 .f32) (main_v20 : FVec F S5x128x20x256 .f32) : IVec S5 1 × IVec S5x128x20x256 1 × IVec S5x128x20 1 × IVec S5x128x20 1 :=
  let main_v21 : FVec F S5x128x20x256 .f32 := mulf main_v20 main_v19
  let main_v22 : FVec F S5x128x20x256 .f32 := mulf main_v2 main_v2
  let main_cst_2 : FVec F S_ .f32 := constant S_ .f32 0x3D4CCCD0#32
  let main_v23 : FVec F S5x128x20x256 .f32 := broadcastInDim S5x128x20x256 ![] bcast_S_S5x128x20x256 main_cst_2
  let main_v24 : FVec F S5x128x20x256 .f32 := mulf main_v23 main_v22
  let main_v25 : FVec F S5x128x20x256 .f32 := addf main_v21 main_v24
  let main_v26 : FVec F S5x128x20x256 .f32 := Host.absf main_v13
  let main_cst_3 : FVec F S_ .f32 := constant S_ .f32 0xFF800000#32
  let main_v27 : FVec F S5x128x20 .f32 := (fun x v => Host.reduce FloatOps.maximumf x v reducesTo_S5x128x20x256_S5x128x20_d3 h_S_) main_v26 main_cst_3
  let main_cst_4 : FVec F S_ .f32 := constant S_ .f32 0xFF800000#32
  let main_v28 : FVec F S5x128x20 .f32 := (fun x v => Host.reduce FloatOps.maximumf x v reducesTo_S5x128x20x256_S5x128x20_d3 h_S_) main_v25 main_cst_4
  let main_c : IVec S_ 32 := constantI S_ 32 0#32
  let main_v29 : IVec S5 32 := broadcastInDim S5 ![] bcast_S_S5 main_c
  let main_v30 : IVec S5 1 := cmpi .ne main_arg8 main_v29
  let main_cst_5 : FVec F S_ .f32 := constant S_ .f32 0x00000000#32
  let main_v31 : FVec F S5x128x20x256 .f32 := broadcastInDim S5x128x20x256 ![] bcast_S_S5x128x20x256 main_cst_5
  let main_v32 : IVec S5x128x20x256 1 := cmpf .oeq main_v25 main_v31
  let main_cst_6 : FVec F S_ .f32 := constant S_ .f32 0x00800000#32
  let main_v33 : FVec F S5x128x20x256 .f32 := broadcastInDim S5x128x20x256 ![] bcast_S_S5x128x20x256 main_cst_6
  let main_v34 : IVec S5x128x20x256 1 := cmpf .oge main_v25 main_v33
  let main_cst_7 : FVec F S_ .f32 := constant S_ .f32 0x7F800000#32
  let main_v35 : FVec F S5x128x20x256 .f32 := broadcastInDim S5x128x20x256 ![] bcast_S_S5x128x20x256 main_cst_7
  let main_v36 : IVec S5x128x20x256 1 := cmpf .olt main_v25 main_v35
  let main_v37 : IVec S5x128x20x256 1 := andi main_v34 main_v36
  fn_part2 (F := F) main_v27 main_v28 main_v30 main_v32 main_v37

def fn {F : FTy → Type} [FloatOps F] (main_arg0 : FVec F S5x128x5120 .f32) (main_arg1 : FVec F S5x128x5120 .bf16) (main_arg2 : FVec F S5x128x128 .bf16) (main_arg3 : IVec S5x128x5120 8) (main_arg4 : FVec F S5x128x20 .f32) (main_arg5 : IVec S5x128x5120 8) (main_arg6 : FVec F S5x128x20 .f32) (main_arg7 : FVec F S5x128x128 .f32) (main_arg8 : IVec S5 32) : IVec S5 1 × IVec S5x128x20x256 1 × IVec S5x128x20 1 × IVec S5x128x20 1 :=
  let main_v0 : FVec F S5x128x20x256 .bf16 := shapeCast S5x128x20x256 main_arg1 shapeCasts_S5x128x5120_S5x128x20x256
  let main_v1 : FVec F S5x128x128 .bf16 := (transpose S5x128x128 [0, 2, 1] · transposes_S5x128x128_S5x128x128_0_2_1) main_arg2
  let main_v2 : FVec F S5x128x20x256 .f32 := (fun l r => Host.dotGeneral dot_S5x128x128_S5x128x20x256_S5x128x20x256_2_1_1_23_0_0 none l r) main_v1 main_v0
  let main_v3 : IVec S5x128x20x256 8 := shapeCast S5x128x20x256 main_arg3 shapeCasts_S5x128x5120_S5x128x20x256
  let main_v4 : IVec S5x128x20x256 32 := (extsi 32 · natLt_8_32) main_v3
  let main_v5 : FVec F S5x128x20x256 .f32 := sitofp .f32 main_v4
  let main_v6 : FVec F S5x128x20x1 .f32 := broadcastInDim S5x128x20x1 ![0, 1, 2] bcast_S5x128x20_S5x128x20x1_0_1_2 main_arg4
  let main_v7 : FVec F S5x128x20x256 .f32 := broadcastInDim S5x128x20x256 ![0, 1, 2, 3] bcast_S5x128x20x1_S5x128x20x256_0_1_2_3 main_v6
  let main_v8 : FVec F S5x128x20x256 .f32 := mulf main_v5 main_v7
  let main_cst : FVec F S_ .f32 := constant S_ .f32 0x3F733333#32
  let main_v9 : FVec F S5x128x20x256 .f32 := broadcastInDim S5x128x20x256 ![] bcast_S_S5x128x20x256 main_cst
  let main_v10 : FVec F S5x128x20x256 .f32 := mulf main_v9 main_v8
  let main_cst_0 : FVec F S_ .f32 := constant S_ .f32 0x3D4CCCD0#32
  let main_v11 : FVec F S5x128x20x256 .f32 := broadcastInDim S5x128x20x256 ![] bcast_S_S5x128x20x256 main_cst_0
  let main_v12 : FVec F S5x128x20x256 .f32 := mulf main_v11 main_v2
  let main_v13 : FVec F S5x128x20x256 .f32 := addf main_v10 main_v12
  let main_v14 : IVec S5x128x20x256 8 := shapeCast S5x128x20x256 main_arg5 shapeCasts_S5x128x5120_S5x128x20x256
  let main_v15 : IVec S5x128x20x256 32 := (extsi 32 · natLt_8_32) main_v14
  let main_v16 : FVec F S5x128x20x256 .f32 := sitofp .f32 main_v15
  let main_v17 : FVec F S5x128x20x1 .f32 := broadcastInDim S5x128x20x1 ![0, 1, 2] bcast_S5x128x20_S5x128x20x1_0_1_2 main_arg6
  let main_v18 : FVec F S5x128x20x256 .f32 := broadcastInDim S5x128x20x256 ![0, 1, 2, 3] bcast_S5x128x20x1_S5x128x20x256_0_1_2_3 main_v17
  let main_v19 : FVec F S5x128x20x256 .f32 := mulf main_v16 main_v18
  let main_cst_1 : FVec F S_ .f32 := constant S_ .f32 0x3F733333#32
  let main_v20 : FVec F S5x128x20x256 .f32 := broadcastInDim S5x128x20x256 ![] bcast_S_S5x128x20x256 main_cst_1
  fn_part1 (F := F) main_arg8 main_v2 main_v13 main_v19 main_v20
-- ==== Kernel.lean ====
abbrev S5x128x5120 : Shape := ⟨3, ![5, 128, 5120]⟩
abbrev S5x128x128 : Shape := ⟨3, ![5, 128, 128]⟩
abbrev S5x128x20 : Shape := ⟨3, ![5, 128, 20]⟩
abbrev S5 : Shape := ⟨1, ![5]⟩
abbrev S1x128x1024 : Shape := ⟨3, ![1, 128, 1024]⟩
abbrev S1x128x128 : Shape := ⟨3, ![1, 128, 128]⟩
abbrev S1x128x20 : Shape := ⟨3, ![1, 128, 20]⟩
abbrev S128x128 : Shape := ⟨2, ![128, 128]⟩
abbrev S128x20 : Shape := ⟨2, ![128, 20]⟩
abbrev S1 : Shape := ⟨1, ![1]⟩
abbrev S1x256 : Shape := ⟨2, ![1, 256]⟩
abbrev S128x1024 : Shape := ⟨2, ![128, 1024]⟩
abbrev S1x128x256 : Shape := ⟨3, ![1, 128, 256]⟩
abbrev S128x256 : Shape := ⟨2, ![128, 256]⟩
abbrev S128x128x1 : Shape := ⟨3, ![128, 128, 1]⟩
abbrev S128 : Shape := ⟨1, ![128]⟩
abbrev S128x1 : Shape := ⟨2, ![128, 1]⟩

abbrev nBuf : Space → Nat
  | .hbm => 15
  | .vmem => 36
  | .smem => 1
  | _ => 0

abbrev bufTy : (tb : Table) → Fin (tcTables nBuf tb) → BufTy
  | .hbm, ⟨0, _⟩ => ⟨S5x128x5120, .f32⟩
  | .hbm, ⟨1, _⟩ => ⟨S5x128x5120, .bf16⟩
  | .hbm, ⟨2, _⟩ => ⟨S5x128x128, .bf16⟩
  | .hbm, ⟨3, _⟩ => ⟨S5x128x5120, .i8⟩
  | .hbm, ⟨4, _⟩ => ⟨S5x128x20, .f32⟩
  | .hbm, ⟨5, _⟩ => ⟨S5x128x5120, .i8⟩
  | .hbm, ⟨6, _⟩ => ⟨S5x128x20, .f32⟩
  | .hbm, ⟨7, _⟩ => ⟨S5x128x128, .f32⟩
  | .hbm, ⟨8, _⟩ => ⟨S5x128x5120, .f32⟩
  | .hbm, ⟨9, _⟩ => ⟨S5x128x5120, .f32⟩
  | .hbm, ⟨10, _⟩ => ⟨S5x128x128, .f32⟩
  | .hbm, ⟨11, _⟩ => ⟨S5x128x5120, .i8⟩
  | .hbm, ⟨12, _⟩ => ⟨S5x128x20, .f32⟩
  | .hbm, ⟨13, _⟩ => ⟨S5x128x5120, .i8⟩
  | .hbm, ⟨14, _⟩ => ⟨S5x128x20, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x1024, .i8⟩
  | .local _ .vmem, ⟨7, _⟩ => ⟨S1x128x1024, .i8⟩
  | .local _ .vmem, ⟨8, _⟩ => ⟨S1x128x20, .f32⟩
  | .local _ .vmem, ⟨9, _⟩ => ⟨S1x128x20, .f32⟩
  | .local _ .vmem, ⟨10, _⟩ => ⟨S1x128x1024, .i8⟩
  | .local _ .vmem, ⟨11, _⟩ => ⟨S1x128x1024, .i8⟩
  | .local _ .vmem, ⟨12, _⟩ => ⟨S1x128x20, .f32⟩
  | .local _ .vmem, ⟨13, _⟩ => ⟨S1x128x20, .f32⟩
  | .local _ .vmem, ⟨14, _⟩ => ⟨S1x128x128, .f32⟩
  | .local _ .vmem, ⟨15, _⟩ => ⟨S1x128x128, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x128, .f32⟩
  | .local _ .vmem, ⟨21, _⟩ => ⟨S1x128x128, .f32⟩
  | .local _ .vmem, ⟨22, _⟩ => ⟨S1x128x1024, .i8⟩
  | .local _ .vmem, ⟨23, _⟩ => ⟨S1x128x1024, .i8⟩
  | .local _ .vmem, ⟨24, _⟩ => ⟨S1x128x20, .f32⟩
  | .local _ .vmem, ⟨25, _⟩ => ⟨S1x128x20, .f32⟩
  | .local _ .vmem, ⟨26, _⟩ => ⟨S1x128x1024, .i8⟩
  | .local _ .vmem, ⟨27, _⟩ => ⟨S1x128x1024, .i8⟩
  | .local _ .vmem, ⟨28, _⟩ => ⟨S1x128x20, .f32⟩
  | .local _ .vmem, ⟨29, _⟩ => ⟨S1x128x20, .f32⟩
  | .local _ .vmem, ⟨30, _⟩ => ⟨S128x128, .bf16⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .smem, ⟨0, _⟩ => ⟨S5, .i32⟩
  | _, _ => ⟨S5x128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![5, 5], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond2 (i : grid0.Coords) : BitVec 1 :=
  let arg1 : BitVec 32 := BitVec.ofNat 32 (i 1).val
  let c4_i32_248 : BitVec 32 := 4#32
  let v491 : BitVec 1 := Scalar.cmpi .eq arg1 c4_i32_248
  let v492 : BitVec 32 := Scalar.extui v491
  let c0_i32_249 : BitVec 32 := 0#32
  let v493 : BitVec 1 := Scalar.cmpi .ne v492 c0_i32_249
  v493

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x1024 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x20 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x20 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "inv_127" => some ((1 / 127 : ℝ) : EReal)
  | "log_decay" => some ((Real.log (15938355 / 16777216) : ℝ) : EReal)
  | _ => none
-- ==== ReferenceIdeal.lean ====
abbrev S5x128x5120 : Shape := ⟨3, ![5, 128, 5120]⟩
abbrev S5x128x128 : Shape := ⟨3, ![5, 128, 128]⟩
abbrev S5x128x20 : Shape := ⟨3, ![5, 128, 20]⟩
abbrev S5 : Shape := ⟨1, ![5]⟩
abbrev S5x128x20x256 : Shape := ⟨4, ![5, 128, 20, 256]⟩
abbrev S5x128x20x1 : Shape := ⟨4, ![5, 128, 20, 1]⟩
abbrev S_ : Shape := ⟨0, ![]⟩
abbrev S5x1x1x1 : Shape := ⟨4, ![5, 1, 1, 1]⟩

abbrev nBuf : Space → Nat
  | .hbm => 133
  | .vmem => 0
  | .smem => 0
  | _ => 0

abbrev hbmTy0_0 (i : Nat) : BufTy := match i % 128 with
  | 0 => ⟨S5x128x5120, .f32⟩
  | 1 => ⟨S5x128x5120, .bf16⟩
  | 2 => ⟨S5x128x128, .bf16⟩
  | 3 => ⟨S5x128x5120, .i8⟩
  | 4 => ⟨S5x128x20, .f32⟩
  | 5 => ⟨S5x128x5120, .i8⟩
  | 6 => ⟨S5x128x20, .f32⟩
  | 7 => ⟨S5x128x128, .f32⟩
  | 8 => ⟨S5, .i32⟩
  | 9 => ⟨S5x128x20x256, .bf16⟩
  | 10 => ⟨S5x128x128, .bf16⟩
  | 11 => ⟨S5x128x20x256, .f32⟩
  | 12 => ⟨S5x128x20x256, .i8⟩
  | 13 => ⟨S5x128x20x256, .i32⟩
  | 14 => ⟨S5x128x20x256, .f32⟩
  | 15 => ⟨S5x128x20x1, .f32⟩
  | 16 => ⟨S5x128x20x256, .f32⟩
  | 17 => ⟨S5x128x20x256, .f32⟩
  | 18 => ⟨S_, .f32⟩
  | 19 => ⟨S5x128x20x256, .f32⟩
  | 20 => ⟨S5x128x20x256, .f32⟩
  | 21 => ⟨S_, .f32⟩
  | 22 => ⟨S5x128x20x256, .f32⟩
  | 23 => ⟨S5x128x20x256, .f32⟩
  | 24 => ⟨S5x128x20x256, .f32⟩
  | 25 => ⟨S5x128x20x256, .i8⟩
  | 26 => ⟨S5x128x20x256, .i32⟩
  | 27 => ⟨S5x128x20x256, .f32⟩
  | 28 => ⟨S5x128x20x1, .f32⟩
  | 29 => ⟨S5x128x20x256, .f32⟩
  | 30 => ⟨S5x128x20x256, .f32⟩
  | 31 => ⟨S_, .f32⟩
  | 32 => ⟨S5x128x20x256, .f32⟩
  | 33 => ⟨S5x128x20x256, .f32⟩
  | 34 => ⟨S5x128x20x256, .f32⟩
  | 35 => ⟨S_, .f32⟩
  | 36 => ⟨S5x128x20x256, .f32⟩
  | 37 => ⟨S5x128x20x256, .f32⟩
  | 38 => ⟨S5x128x20x256, .f32⟩
  | 39 => ⟨S5x128x20x256, .f32⟩
  | 40 => ⟨S_, .f32⟩
  | 41 => ⟨S5x128x20x256, .f32⟩
  | 42 => ⟨S5x128x20x256, .f32⟩
  | 43 => ⟨S5x128x20x256, .f32⟩
  | 44 => ⟨S5x128x20x256, .bf16⟩
  | 45 => ⟨S5x128x20x256, .f32⟩
  | 46 => ⟨S5, .f32⟩
  | 47 => ⟨S_, .f32⟩
  | 48 => ⟨S5, .f32⟩
  | 49 => ⟨S5, .f32⟩
  | 50 => ⟨S_, .f32⟩
  | 51 => ⟨S5, .f32⟩
  | 52 => ⟨S5, .f32⟩
  | 53 => ⟨S5, .f32⟩
  | 54 => ⟨S_, .f32⟩
  | 55 => ⟨S5, .f32⟩
  | 56 => ⟨S5, .f32⟩
  | 57 => ⟨S_, .f32⟩
  | 58 => ⟨S5, .f32⟩
  | 59 => ⟨S5, .f32⟩
  | 60 => ⟨S_, .f32⟩
  | 61 => ⟨S5, .f32⟩
  | 62 => ⟨S5, .f32⟩
  | 63 => ⟨S5, .f32⟩
  | 64 => ⟨S5x1x1x1, .f32⟩
  | 65 => ⟨S5x1x1x1, .f32⟩
  | 66 => ⟨S5x128x20x256, .f32⟩
  | 67 => ⟨S5x128x20x256, .f32⟩
  | 68 => ⟨S5x128x5120, .f32⟩
  | 69 => ⟨S5x128x5120, .f32⟩
  | 70 => ⟨S5x128x20x256, .f32⟩
  | 71 => ⟨S_, .f32⟩
  | 72 => ⟨S5x128x20, .f32⟩
  | 73 => ⟨S_, .f32⟩
  | 74 => ⟨S5x128x20, .f32⟩
  | 75 => ⟨S5x128x20, .i1⟩
  | 76 => ⟨S_, .f32⟩
  | 77 => ⟨S5x128x20, .f32⟩
  | 78 => ⟨S5x128x20, .f32⟩
  | 79 => ⟨S_, .f32⟩
  | 80 => ⟨S_, .f32⟩
  | 81 => ⟨S5x128x20, .f32⟩
  | 82 => ⟨S5x128x20, .f32⟩
  | 83 => ⟨S5x128x20x1, .f32⟩
  | 84 => ⟨S5x128x20x256, .f32⟩
  | 85 => ⟨S5x128x20x256, .f32⟩
  | 86 => ⟨S5x128x20x256, .f32⟩
  | 87 => ⟨S_, .f32⟩
  | 88 => ⟨S_, .f32⟩
  | 89 => ⟨S_, .f32⟩
  | 90 => ⟨S5x128x20x256, .f32⟩
  | 91 => ⟨S5x128x20x256, .f32⟩
  | 92 => ⟨S_, .f32⟩
  | 93 => ⟨S5x128x20x256, .f32⟩
  | 94 => ⟨S5x128x20x256, .f32⟩
  | 95 => ⟨S5x128x20x256, .i32⟩
  | 96 => ⟨S5x128x20x256, .i8⟩
  | 97 => ⟨S_, .f32⟩
  | 98 => ⟨S5x128x20, .f32⟩
  | 99 => ⟨S_, .f32⟩
  | 100 => ⟨S5x128x20, .f32⟩
  | 101 => ⟨S5x128x20, .i1⟩
  | 102 => ⟨S_, .f32⟩
  | 103 => ⟨S5x128x20, .f32⟩
  | 104 => ⟨S5x128x20, .f32⟩
  | 105 => ⟨S_, .f32⟩
  | 106 => ⟨S_, .f32⟩
  | 107 => ⟨S5x128x20, .f32⟩
  | 108 => ⟨S5x128x20, .f32⟩
  | 109 => ⟨S5x128x20x1, .f32⟩
  | 110 => ⟨S5x128x20x256, .f32⟩
  | 111 => ⟨S5x128x20x256, .f32⟩
  | 112 => ⟨S5x128x20x256, .f32⟩
  | 113 => ⟨S_, .f32⟩
  | 114 => ⟨S_, .f32⟩
  | 115 => ⟨S_, .f32⟩
  | 116 => ⟨S5x128x20x256, .f32⟩
  | 117 => ⟨S5x128x20x256, .f32⟩
  | 118 => ⟨S_, .f32⟩
  | 119 => ⟨S5x128x20x256, .f32⟩
  | 120 => ⟨S5x128x20x256, .f32⟩
  | 121 => ⟨S5x128x20x256, .i32⟩
  | 122 => ⟨S5x128x20x256, .i8⟩
  | 123 => ⟨S5x128x128, .f32⟩
  | 124 => ⟨S_, .f32⟩
  | 125 => ⟨S5x128x128, .f32⟩
  | 126 => ⟨S5x128x128, .f32⟩
  | 127 => ⟨S_, .f32⟩
  | _ => ⟨S5x128x5120, .f32⟩

abbrev hbmTy0_1 (i : Nat) : BufTy := match i % 128 with
  | 0 => ⟨S5x128x128, .f32⟩
  | 1 => ⟨S5x128x128, .f32⟩
  | 2 => ⟨S5x128x128, .f32⟩
  | 3 => ⟨S5x128x5120, .i8⟩
  | 4 => ⟨S5x128x5120, .i8⟩
  | _ => ⟨S5x128x5120, .f32⟩

abbrev hbmTy (i : Nat) : BufTy := match i / 128 with
  | 0 => hbmTy0_0 i
  | 1 => hbmTy0_1 i
  | _ => ⟨S5x128x5120, .f32⟩

abbrev bufTy : (tb : Table) → Fin (tcTables nBuf tb) → BufTy
  | .hbm, ⟨i, _⟩ => hbmTy i
  | _, _ => ⟨S5x128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_cst_18 : Ref sig .tc := ⟨.hbm, 105, rfl⟩
abbrev main_call3_v0 : Ref sig .tc := ⟨.hbm, 106, rfl⟩
abbrev main_call3_v1 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_19 : Ref sig .tc := ⟨.hbm, 113, rfl⟩
abbrev main_cst_20 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_21 : Ref sig .tc := ⟨.hbm, 124, rfl⟩
abbrev main_v79 : Ref sig .tc := ⟨.hbm, 125, rfl⟩
abbrev main_v80 : Ref sig .tc := ⟨.hbm, 126, rfl⟩
abbrev main_cst_22 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩

abbrev nD : Nat := 1
abbrev τ : Topo := Topo.v7x

variable {F : FTy → Type} [FloatOps F]
-- ==== Proof.P.Points.lean ====
/- The schedule of the pallas_call on its static grid: at which points each window is fetched and written back, the staging memrefs at a point, and the body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%arg2)) is fetched at the points ≡ 0 (mod 5), at any contents of the tables (its index map reads none). -/
theorem fetch0_2 (a : (pcfg0 (F := F)).Adm) : ∀ t : Fin (cfg0 a).N, ((cfg0 a).win 2).fetch t = true ↔ t.val % 5 = 0 :=
  (fun t => Pipeline.Window.fetchOf_reads cc0_transform_2 reads0_2 hreads0_2 0 (by decide) (by decide) (Pipeline.Window.sep_of_coord cc0_transform_2 0 0 (fun _ => rfl) (by decide)) (P := 5) (by decide) t : ∀ t : Fin grid0.N, Pipeline.Window.fetchOf grid0 false cc0_transform_2 t = true ↔ t.val % 5 = 0)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 2 (fun _ => rfl) (by decide)) (P := 1) (by decide) t).mpr (Nat.mod_one _) : ∀ t : Fin grid0.N, Pipeline.Window.fetchOf grid0 false cc0_transform_3 t = true)
/-- Window 4 (operand 5 (%arg4)) is fetched at the points ≡ 0 (mod 5), at any contents of the tables (its index map reads none). -/
theorem fetch0_4 (a : (pcfg0 (F := F)).Adm) : ∀ t : Fin (cfg0 a).N, ((cfg0 a).win 4).fetch t = true ↔ t.val % 5 = 0 :=
  (fun t => Pipeline.Window.fetchOf_reads cc0_transform_4 reads0_4 hreads0_4 0 (by decide) (by decide) (Pipeline.Window.sep_of_coord cc0_transform_4 0 0 (fun _ => rfl) (by decide)) (P := 5) (by decide) t : ∀ t : Fin grid0.N, Pipeline.Window.fetchOf grid0 false cc0_transform_4 t = true ↔ t.val % 5 = 0)
/-- Window 5 (operand 6 (%arg5)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 2 (fun _ => rfl) (by decide)) (P := 1) (by decide) t).mpr (Nat.mod_one _) : ∀ t : Fin grid0.N, Pipeline.Window.fetchOf grid0 false cc0_transform_5 t = true)
/-- Window 6 (operand 7 (%arg6)) is fetched at the points ≡ 0 (mod 5), at any contents of the tables (its index map reads none). -/
theorem fetch0_6 (a : (pcfg0 (F := F)).Adm) : ∀ t : Fin (cfg0 a).N, ((cfg0 a).win 6).fetch t = true ↔ t.val % 5 = 0 :=
  (fun t => Pipeline.Window.fetchOf_reads cc0_transform_6 reads0_6 hreads0_6 0 (by decide) (by decide) (Pipeline.Window.sep_of_coord cc0_transform_6 0 0 (fun _ => rfl) (by decide)) (P := 5) (by decide) t : ∀ t : Fin grid0.N, Pipeline.Window.fetchOf grid0 false cc0_transform_6 t = true ↔ t.val % 5 = 0)
/-- Window 7 (operand 8 (%arg7)) is fetched at the points ≡ 0 (mod 5), at any contents of the tables (its index map reads none). -/
theorem fetch0_7 (a : (pcfg0 (F := F)).Adm) : ∀ t : Fin (cfg0 a).N, ((cfg0 a).win 7).fetch t = true ↔ t.val % 5 = 0 :=
  (fun t => Pipeline.Window.fetchOf_reads cc0_transform_7 reads0_7 hreads0_7 0 (by decide) (by decide) (Pipeline.Window.sep_of_coord cc0_transform_7 0 0 (fun _ => rfl) (by decide)) (P := 5) (by decide) t : ∀ t : Fin grid0.N, Pipeline.Window.fetchOf grid0 false cc0_transform_7 t = true ↔ t.val % 5 = 0)
/-- Window 8 (result 0 (%0#0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)
/-- Window 9 (result 1 (%0#1)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)
/-- Window 10 (result 2 (%0#2)) is written back at the points ≡ 4 (mod 5), at any contents of the tables (its index map reads none). -/
theorem flush0_10 (a : (pcfg0 (F := F)).Adm) : ∀ t : Fin (cfg0 a).N, ((cfg0 a).win 10).flush t = true ↔ t.val % 5 = 4 :=
  (fun t => Pipeline.Window.flushOf_reads cc0_transform_10 reads0_10 hreads0_10 0 (by decide) (by decide) (Pipeline.Window.sep_of_coord cc0_transform_10 0 0 (fun _ => rfl) (by decide)) (P := 5) (m := 4) (by decide) rfl t : ∀ t : Fin grid0.N, Pipeline.Window.flushOf grid0 true cc0_transform_10 t = true ↔ t.val % 5 = 4)
/-- Window 11 (result 3 (%0#3)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 2 (fun _ => rfl) (by decide)) (P := 1) (m := 0) (by decide) rfl t).mpr (Nat.mod_one _) : ∀ t : Fin grid0.N, Pipeline.Window.flushOf grid0 true cc0_transform_11 t = true)
/-- Window 12 (result 4 (%0#4)) is written back at the points ≡ 4 (mod 5), at any contents of the tables (its index map reads none). -/
theorem flush0_12 (a : (pcfg0 (F := F)).Adm) : ∀ t : Fin (cfg0 a).N, ((cfg0 a).win 12).flush t = true ↔ t.val % 5 = 4 :=
  (fun t => Pipeline.Window.flushOf_reads cc0_transform_12 reads0_12 hreads0_12 0 (by decide) (by decide) (Pipeline.Window.sep_of_coord cc0_transform_12 0 0 (fun _ => rfl) (by decide)) (P := 5) (m := 4) (by decide) rfl t : ∀ t : Fin grid0.N, Pipeline.Window.flushOf grid0 true cc0_transform_12 t = true ↔ t.val % 5 = 4)
/-- Window 13 (result 5 (%0#5)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)
/-- Window 14 (result 6 (%0#6)) is written back at the points ≡ 4 (mod 5), at any contents of the tables (its index map reads none). -/
theorem flush0_14 (a : (pcfg0 (F := F)).Adm) : ∀ t : Fin (cfg0 a).N, ((cfg0 a).win 14).flush t = true ↔ t.val % 5 = 4 :=
  (fun t => Pipeline.Window.flushOf_reads cc0_transform_14 reads0_14 hreads0_14 0 (by decide) (by decide) (Pipeline.Window.sep_of_coord cc0_transform_14 0 0 (fun _ => rfl) (by decide)) (P := 5) (m := 4) (by decide) rfl t : ∀ t : Fin grid0.N, Pipeline.Window.flushOf grid0 true cc0_transform_14 t = true ↔ t.val % 5 = 4)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_soap_step (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.P.Kit.lean ====
/- What the runs of the kernel body share: the buffers' contents at the region's entry, the windows' blocks, the body's branch conditions in closed form over the points, where its windows are idle, the staging and scratch memrefs. -/
module

public import proofs.«01_k».proof.Proof.Gen.Kernel.Launch
public import proofs.«01_k».proof.Proof.Gen.Kernel.Skeleton
public import proofs.«01_k».proof.Proof.P.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin grid0.N, cond0_0 (grid0.coords t) ↔ t.val % 5 = 0 :=
  (fun t => by
    have ht : t.val < 25 := Nat.lt_of_lt_of_eq t.isLt N_0
    have e0 : (grid0.coords t 0).val = t.val / 5 % 5 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points ≡ 4 (mod 5) — by arithmetic of the point. -/
theorem hcond0_1 : ∀ t : Fin grid0.N, cond0_1 (grid0.coords t) ↔ t.val % 5 = 4 :=
  (fun t => by
    have ht : t.val < 25 := Nat.lt_of_lt_of_eq t.isLt N_0
    have e0 : (grid0.coords t 0).val = t.val / 5 % 5 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 4)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x1024 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x20 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x1024 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x20 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x128x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x128x1024 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x128x20 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x128x1024 .i8 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x128x20 .f32 := spec0_14.stage ((cfgM m hO).slots t 14)
abbrev hs0_14 (hO : Ok m) (t : Fin (cfgM m hO).N) : (ms0_14 m hO t).IsWhole := hstage0_14 (((cfgM m hO).slots t 14).cast nbuf0_14)
/-- The scratch operands: whole scoped buffers of the kernel's own, passed beside the windows. -/
abbrev scM0_0 : Memref sig .tc .vmem S128x128 .bf16 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
/-- The scratch `arg18` the kernel carries between points, as a view: what it holds is stated through it. -/
abbrev VS0_0 : View sig .tc .vmem S128x128 .bf16 := scM0_0.view
/-- The scratch `arg19` the kernel carries between points, as a view: what it holds is stated through it. -/
abbrev VS0_1 : View sig .tc .vmem S128x128 .f32 := scM0_1.view
/-- The scratch `arg20` the kernel carries between points, as a view: what it holds is stated through it. -/
abbrev VS0_2 : View sig .tc .vmem S128x128 .f32 := scM0_2.view
/-- The scratch `arg21` the kernel carries between points, as a view: what it holds is stated through it. -/
abbrev VS0_3 : View sig .tc .vmem S128x128 .f32 := scM0_3.view
/-- The scratch `arg22` the kernel carries between points, as a view: what it holds is stated through it. -/
abbrev VS0_4 : View sig .tc .vmem S128x128 .f32 := scM0_4.view
/-- The scratch `arg23` the kernel carries between points, as a view: what it holds is stated through it. -/
abbrev VS0_5 : View sig .tc .vmem S128x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.P.RunA.lean ====
/- The whole-body run of the kernel in case A, by symbolic execution of the printed skeleton, on scratch buffers held at arbitrary known contents. -/
module

public import proofs.«01_k».proof.Proof.P.Kit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- In case A the body runs from the inputs at their contents and every other buffer at anything, and hands the
    inputs back as they were and the rest at something. -/
theorem run_A (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : cond0_0 i) (hc1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_soap_step_eq_skeleton]; unfold cc0_soap_step_skel
  simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexact HT0

end Cert.Kernel.Gen

end
-- ==== Proof.P.RunB.lean ====
/- The whole-body run of the kernel in case B, by symbolic execution of the printed skeleton, on scratch buffers held at arbitrary known contents. -/
module

public import proofs.«01_k».proof.Proof.P.Kit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- In case B the body runs from the inputs at their contents and every other buffer at anything, and hands the
    inputs back as they were and the rest at something. -/
theorem run_B (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : ¬cond0_0 i) (hc1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_soap_step_eq_skeleton]; unfold cc0_soap_step_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexact HT0

end Cert.Kernel.Gen

end
-- ==== Proof.P.RunC.lean ====
/- The whole-body run of the kernel in case C, by symbolic execution of the printed skeleton, on scratch buffers held at arbitrary known contents. -/
module

public import proofs.«01_k».proof.Proof.P.Kit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- In case C the body runs from the inputs at their contents and every other buffer at anything, and hands the
    inputs back as they were and the rest at something. -/
theorem run_C (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : ¬cond0_0 i) (hc1 : cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_soap_step_eq_skeleton]; unfold cc0_soap_step_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexact HT0

end Cert.Kernel.Gen

end
-- ==== Proof.P.Frame.lean ====
/- The frame of the kernel as traced: the pallas_call leaves every argument array as it found it, nothing said of
   what it stores in its results. The scratch buffers hold anything before a point and anything after it. -/
module

public import proofs.«01_k».proof.Proof.P.RunA
public import proofs.«01_k».proof.Proof.P.RunB
public import proofs.«01_k».proof.Proof.P.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results, of which nothing is named: windows 8 to 14. -/
def forgets0 : Fin 15 → Bool := fun w => w.val == 8 || w.val == 9 || w.val == 10 || w.val == 11 || w.val == 12 || w.val == 13 || w.val == 14

/-- The proof data: the arrays as the region finds them, each input's buffer at its block, the results unnamed, the
    invariant the scratch at anything beside the table's half. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ X, owns (c : Thread nD τ) (ms0_8 m hO t) fullShare X)
    ∗ (∃ X, owns (c : Thread nD τ) (ms0_9 m hO t) fullShare X)
    ∗ (∃ X, owns (c : Thread nD τ) (ms0_10 m hO t) fullShare X)
    ∗ (∃ X, owns (c : Thread nD τ) (ms0_11 m hO t) fullShare X)
    ∗ (∃ X, owns (c : Thread nD τ) (ms0_12 m hO t) fullShare X)
    ∗ (∃ X, owns (c : Thread nD τ) (ms0_13 m hO t) fullShare X)
    ∗ (∃ X, owns (c : Thread nD τ) (ms0_14 m hO t) fullShare X))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (∃ X, owns (c : Thread nD τ) (ms0_8 m hO t) fullShare X)
    ∗ (∃ X, owns (c : Thread nD τ) (ms0_9 m hO t) fullShare X)
    ∗ (∃ X, owns (c : Thread nD τ) (ms0_10 m hO t) fullShare X)
    ∗ (∃ X, owns (c : Thread nD τ) (ms0_11 m hO t) fullShare X)
    ∗ (∃ X, owns (c : Thread nD τ) (ms0_12 m hO t) fullShare X)
    ∗ (∃ X, owns (c : Thread nD τ) (ms0_13 m hO t) fullShare X)
    ∗ (∃ X, owns (c : Thread nD τ) (ms0_14 m hO t) fullShare X))

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
  by_cases h0 : t.val % 5 = 0
  · have h1 : ¬ t.val % 5 = 4 := by omega
    iapply (run_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, H8, H9, H10, H11, H12, H13, H14, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · by_cases h1 : t.val % 5 = 4
    · iapply (run_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, H5, H6, H7, H8, H9, H10, H11, H12, H13, H14, HS0, HS1, HS2, HS3, HS4, HS5, HT0⟩
      isplitl [HS0 HS1 HS2 HS3 HS4 HS5 Hg HT0]
      · isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iapply (run_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, H5, H6, H7, H8, H9, H10, H11, H12, H13, H14, HS0, HS1, HS2, HS3, HS4, HS5, HT0⟩
      isplitl [HS0 HS1 HS2 HS3 HS4 HS5 Hg HT0]
      · isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

set_option backward.isDefEq.respectTransparency.types false in
/-- The launch. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- The frame: every argument array ends as it was, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ hO (fun c => (dats m hO 0 c).toRForget forgets0) (A_eq m hO) (run_main m ρ hO))
    ((θ_run defs _ _).mono (fun _ h => h.2) (run_main_quiescent m ρ hO))

end Cert.Kernel.Gen

end
-- ==== Proof.V.Tile.lean ====
/- What one tile of the kernel's body computes (256 columns of one batch entry, that is one quantisation block per
   row), as vector terms that do not mention which of the four tiles of the body it is. -/
module

public import proofs.«01_k».proof.Proof.Gen.KernelIdeal.Skeleton
public import Idealize.ShloMosaic.Lib.Pointwise

@[expose] public section

set_option maxRecDepth 16384

noncomputable section

namespace Cert.KernelIdeal.Tile

open Idealize.ShloMosaic Idealize.ShloMosaic.TcCoe
open Cert.KernelIdeal Cert.KernelIdeal.Gen

section defs
variable {F : FTy → Type} [FloatOps F] [Named F]

/-- Column `n` of a scale tile, spread over every lane (the kernel's take along lanes at a constant index). -/
def gather (n : BitVec 32) (s : Vec F S128x128 .f32) : FVec F S128x128 .f32 :=
  dynamicGather 1 s (shapeCast S128x128 (shapeCast S128x128x1
    (select (cmpi .slt (broadcast S128x128 n) (broadcast S128x128 0#32)) (addi (broadcast S128x128 n) (broadcast S128x128 128#32)) (broadcast S128x128 n))
    shapeCasts_S128x128_S128x128x1) shapeCasts_S128x128x1_S128x128)

/-- A tile of codes times the tile's (decayed) scales. -/
def deq (n : BitVec 32) (s : Vec F S128x128 .f32) (cd : Vec F S1x128x256 .i8) : FVec F S128x256 .f32 :=
  mulf (sitofp .f32 (shapeCast S128x256 cd shapeCasts_S1x128x256_S128x256))
    (concatenate S128x256 1 [⟨S128x128, gather n s⟩, ⟨S128x128, gather n s⟩] concatenates_S128x128_S128x128_S128x256_d1)

/-- The tile's first moment. -/
def mT (n : BitVec 32) (qt : Vec F S128x128 .bf16) (s : Vec F S128x128 .f32) (g : Vec F S1x128x256 .bf16) (cd : Vec F S1x128x256 .i8) : FVec F S128x256 .f32 :=
  addf (deq n s cd) (k0_pay13 qt g)

/-- The tile's second moment. -/
def vT (n : BitVec 32) (qt : Vec F S128x128 .bf16) (s : Vec F S128x128 .f32) (g : Vec F S1x128x256 .bf16) (cd : Vec F S1x128x256 .i8) : FVec F S128x256 .f32 :=
  k0_pay16 (k0_pay11 qt g) (k0_pay13 qt g) (deq n s cd)

/-- The tile's update, -/
def dT (n : BitVec 32) (sz : FVec F S1x256 .f32) (q : Vec F S1x128x128 .bf16) (qt : Vec F S128x128 .bf16) (ms vs : Vec F S128x128 .f32) (g : Vec F S1x128x256 .bf16) (mc vc : Vec F S1x128x256 .i8) : FVec F S1x128x256 .f32 :=
  k0_pay18 sz (k0_pay10 q) (k0_pay11 qt g) (k0_pay13 qt g) (mT n qt ms g mc) (deq n vs vc)

/-- the updated weights, -/
def wT (n : BitVec 32) (sz : FVec F S1x256 .f32) (q : Vec F S1x128x128 .bf16) (qt : Vec F S128x128 .bf16) (ms vs : Vec F S128x128 .f32) (g : Vec F S1x128x256 .bf16) (mc vc : Vec F S1x128x256 .i8) (w : Vec F S1x128x256 .f32) : FVec F S1x128x256 .f32 :=
  k0_pay19 sz (k0_pay10 q) (k0_pay11 qt g) (k0_pay13 qt g) (mT n qt ms g mc) (deq n vs vc) w

/-- the first moment's codes, -/
def mcT (n : BitVec 32) (qt : Vec F S128x128 .bf16) (s : Vec F S128x128 .f32) (g : Vec F S1x128x256 .bf16) (cd : Vec F S1x128x256 .i8) : Vec F S1x128x256 .i8 :=
  k0_pay25 (mT n qt s g cd) (k0_pay22 (mT n qt s g cd))

/-- the second moment's codes, -/
def vcT (n : BitVec 32) (qt : Vec F S128x128 .bf16) (s : Vec F S128x128 .f32) (g : Vec F S1x128x256 .bf16) (cd : Vec F S1x128x256 .i8) : Vec F S1x128x256 .i8 :=
  k0_pay26 (vT n qt s g cd) (k0_pay23 (k0_pay11 qt g) (k0_pay13 qt g) (deq n s cd)) k0_pay24

/-- each row's largest first moment, -/
def maT (n : BitVec 32) (qt : Vec F S128x128 .bf16) (s : Vec F S128x128 .f32) (g : Vec F S1x128x256 .bf16) (cd : Vec F S1x128x256 .i8) : FVec F S128x1 .f32 :=
  k0_pay20 (mT n qt s g cd)

/-- and largest second moment; -/
def vaT (n : BitVec 32) (qt : Vec F S128x128 .bf16) (s : Vec F S128x128 .f32) (g : Vec F S1x128x256 .bf16) (cd : Vec F S1x128x256 .i8) : FVec F S128x1 .f32 :=
  k0_pay21 (k0_pay11 qt g) (k0_pay13 qt g) (deq n s cd)

/-- the tile of maxima with lane `n` replaced. -/
def upd (n : BitVec 32) (mx : FVec F S128x1 .f32) (s : Vec F S128x128 .f32) : FVec F S128x128 .f32 :=
  k0_pay28 (iota .tc S128x128 32 [1] iota_S128x128_d1_w32) n mx s

/-- The word of tile `t` of grid column `j`. -/
def nw (a : BitVec 32) (t : BitVec 32) : BitVec 32 := Scalar.addi (Scalar.muli a 4#32) t

end defs

end Cert.KernelIdeal.Tile

end
-- ==== Proof.PI.Points.lean ====
/- The schedule of the pallas_call on its static grid: at which points each window is fetched and written back, the staging memrefs at a point, and the body as the pipeline calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%arg2)) is fetched at the points ≡ 0 (mod 5), at any contents of the tables (its index map reads none). -/
theorem fetch0_2 (a : (pcfg0 (F := F)).Adm) : ∀ t : Fin (cfg0 a).N, ((cfg0 a).win 2).fetch t = true ↔ t.val % 5 = 0 :=
  (fun t => Pipeline.Window.fetchOf_reads cc0_transform_2 reads0_2 hreads0_2 0 (by decide) (by decide) (Pipeline.Window.sep_of_coord cc0_transform_2 0 0 (fun _ => rfl) (by decide)) (P := 5) (by decide) t : ∀ t : Fin grid0.N, Pipeline.Window.fetchOf grid0 false cc0_transform_2 t = true ↔ t.val % 5 = 0)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 2 (fun _ => rfl) (by decide)) (P := 1) (by decide) t).mpr (Nat.mod_one _) : ∀ t : Fin grid0.N, Pipeline.Window.fetchOf grid0 false cc0_transform_3 t = true)
/-- Window 4 (operand 5 (%arg4)) is fetched at the points ≡ 0 (mod 5), at any contents of the tables (its index map reads none). -/
theorem fetch0_4 (a : (pcfg0 (F := F)).Adm) : ∀ t : Fin (cfg0 a).N, ((cfg0 a).win 4).fetch t = true ↔ t.val % 5 = 0 :=
  (fun t => Pipeline.Window.fetchOf_reads cc0_transform_4 reads0_4 hreads0_4 0 (by decide) (by decide) (Pipeline.Window.sep_of_coord cc0_transform_4 0 0 (fun _ => rfl) (by decide)) (P := 5) (by decide) t : ∀ t : Fin grid0.N, Pipeline.Window.fetchOf grid0 false cc0_transform_4 t = true ↔ t.val % 5 = 0)
/-- Window 5 (operand 6 (%arg5)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 2 (fun _ => rfl) (by decide)) (P := 1) (by decide) t).mpr (Nat.mod_one _) : ∀ t : Fin grid0.N, Pipeline.Window.fetchOf grid0 false cc0_transform_5 t = true)
/-- Window 6 (operand 7 (%arg6)) is fetched at the points ≡ 0 (mod 5), at any contents of the tables (its index map reads none). -/
theorem fetch0_6 (a : (pcfg0 (F := F)).Adm) : ∀ t : Fin (cfg0 a).N, ((cfg0 a).win 6).fetch t = true ↔ t.val % 5 = 0 :=
  (fun t => Pipeline.Window.fetchOf_reads cc0_transform_6 reads0_6 hreads0_6 0 (by decide) (by decide) (Pipeline.Window.sep_of_coord cc0_transform_6 0 0 (fun _ => rfl) (by decide)) (P := 5) (by decide) t : ∀ t : Fin grid0.N, Pipeline.Window.fetchOf grid0 false cc0_transform_6 t = true ↔ t.val % 5 = 0)
/-- Window 7 (operand 8 (%arg7)) is fetched at the points ≡ 0 (mod 5), at any contents of the tables (its index map reads none). -/
theorem fetch0_7 (a : (pcfg0 (F := F)).Adm) : ∀ t : Fin (cfg0 a).N, ((cfg0 a).win 7).fetch t = true ↔ t.val % 5 = 0 :=
  (fun t => Pipeline.Window.fetchOf_reads cc0_transform_7 reads0_7 hreads0_7 0 (by decide) (by decide) (Pipeline.Window.sep_of_coord cc0_transform_7 0 0 (fun _ => rfl) (by decide)) (P := 5) (by decide) t : ∀ t : Fin grid0.N, Pipeline.Window.fetchOf grid0 false cc0_transform_7 t = true ↔ t.val % 5 = 0)
/-- Window 8 (result 0 (%0#0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)
/-- Window 9 (result 1 (%0#1)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)
/-- Window 10 (result 2 (%0#2)) is written back at the points ≡ 4 (mod 5), at any contents of the tables (its index map reads none). -/
theorem flush0_10 (a : (pcfg0 (F := F)).Adm) : ∀ t : Fin (cfg0 a).N, ((cfg0 a).win 10).flush t = true ↔ t.val % 5 = 4 :=
  (fun t => Pipeline.Window.flushOf_reads cc0_transform_10 reads0_10 hreads0_10 0 (by decide) (by decide) (Pipeline.Window.sep_of_coord cc0_transform_10 0 0 (fun _ => rfl) (by decide)) (P := 5) (m := 4) (by decide) rfl t : ∀ t : Fin grid0.N, Pipeline.Window.flushOf grid0 true cc0_transform_10 t = true ↔ t.val % 5 = 4)
/-- Window 11 (result 3 (%0#3)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 2 (fun _ => rfl) (by decide)) (P := 1) (m := 0) (by decide) rfl t).mpr (Nat.mod_one _) : ∀ t : Fin grid0.N, Pipeline.Window.flushOf grid0 true cc0_transform_11 t = true)
/-- Window 12 (result 4 (%0#4)) is written back at the points ≡ 4 (mod 5), at any contents of the tables (its index map reads none). -/
theorem flush0_12 (a : (pcfg0 (F := F)).Adm) : ∀ t : Fin (cfg0 a).N, ((cfg0 a).win 12).flush t = true ↔ t.val % 5 = 4 :=
  (fun t => Pipeline.Window.flushOf_reads cc0_transform_12 reads0_12 hreads0_12 0 (by decide) (by decide) (Pipeline.Window.sep_of_coord cc0_transform_12 0 0 (fun _ => rfl) (by decide)) (P := 5) (m := 4) (by decide) rfl t : ∀ t : Fin grid0.N, Pipeline.Window.flushOf grid0 true cc0_transform_12 t = true ↔ t.val % 5 = 4)
/-- Window 13 (result 5 (%0#5)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)
/-- Window 14 (result 6 (%0#6)) is written back at the points ≡ 4 (mod 5), at any contents of the tables (its index map reads none). -/
theorem flush0_14 (a : (pcfg0 (F := F)).Adm) : ∀ t : Fin (cfg0 a).N, ((cfg0 a).win 14).flush t = true ↔ t.val % 5 = 4 :=
  (fun t => Pipeline.Window.flushOf_reads cc0_transform_14 reads0_14 hreads0_14 0 (by decide) (by decide) (Pipeline.Window.sep_of_coord cc0_transform_14 0 0 (fun _ => rfl) (by decide)) (P := 5) (m := 4) (by decide) rfl t : ∀ t : Fin grid0.N, Pipeline.Window.flushOf grid0 true cc0_transform_14 t = true ↔ t.val % 5 = 4)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_soap_step (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.PI.Kit.lean ====
/- What the runs of the kernel body share: the buffers' contents at the region's entry, the windows' blocks, the body's branch conditions in closed form over the points, where its windows are idle, the staging and scratch memrefs. -/
module

public import proofs.«01_k».proof.Proof.Gen.KernelIdeal.Launch
public import proofs.«01_k».proof.Proof.Gen.KernelIdeal.Skeleton
public import proofs.«01_k».proof.Proof.PI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin grid0.N, cond0_0 (grid0.coords t) ↔ t.val % 5 = 0 :=
  (fun t => by
    have ht : t.val < 25 := Nat.lt_of_lt_of_eq t.isLt N_0
    have e0 : (grid0.coords t 0).val = t.val / 5 % 5 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points ≡ 4 (mod 5) — by arithmetic of the point. -/
theorem hcond0_1 : ∀ t : Fin grid0.N, cond0_1 (grid0.coords t) ↔ t.val % 5 = 4 :=
  (fun t => by
    have ht : t.val < 25 := Nat.lt_of_lt_of_eq t.isLt N_0
    have e0 : (grid0.coords t 0).val = t.val / 5 % 5 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 4)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an output stored at every point, under no condition). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an output stored at every point, under no condition). -/
theorem liveAt0_9 (hO : Ok m) : ∀ t : Fin (cfgM m hO).N, (cfgM m hO).idle 9 (grid0.coords t) = false :=
  (fun _ => rfl : ∀ t : Fin grid0.N, idle0 9 (grid0.coords t) = false)
/-- Window 11 is never idle (an output stored at every point, under no condition). -/
theorem liveAt0_11 (hO : Ok m) : ∀ t : Fin (cfgM m hO).N, (cfgM m hO).idle 11 (grid0.coords t) = false :=
  (fun _ => rfl : ∀ t : Fin grid0.N, idle0 11 (grid0.coords t) = false)
/-- Window 13 is never idle (an output stored at every point, under no condition). -/
theorem liveAt0_13 (hO : Ok m) : ∀ t : Fin (cfgM m hO).N, (cfgM m hO).idle 13 (grid0.coords t) = false :=
  (fun _ => rfl : ∀ t : Fin grid0.N, idle0 13 (grid0.coords t) = false)
/-- At the points of case A the printed configuration (`Cfg.idle`) calls output 10 idle: the case stores nothing into it. -/
theorem idleAt0_10_A (hO : Ok m) : ∀ t : Fin (cfgM m hO).N, cond0_0 (grid0.coords t) → ¬cond0_1 (grid0.coords t) → (cfgM m hO).idle 10 (grid0.coords t) = true :=
  (by decide +kernel : ∀ t : Fin grid0.N, cond0_0 (grid0.coords t) → ¬cond0_1 (grid0.coords t) → idle0 10 (grid0.coords t) = true)
/-- At the points of case A the pipeline does not write output 10's block back. -/
theorem noFlush0_10_A (hO : Ok m) : ∀ t : Fin (cfgM m hO).N, cond0_0 (grid0.coords t) → ¬cond0_1 (grid0.coords t) → ((cfgM m hO).win 10).flush t = false :=
  (by decide +kernel : ∀ t : Fin grid0.N, cond0_0 (grid0.coords t) → ¬cond0_1 (grid0.coords t) → Pipeline.Window.flushOf grid0 true cc0_transform_10 t = false)
/-- At the points of case B the printed configuration (`Cfg.idle`) calls output 10 idle: the case stores nothing into it. -/
theorem idleAt0_10_B (hO : Ok m) : ∀ t : Fin (cfgM m hO).N, ¬cond0_0 (grid0.coords t) → ¬cond0_1 (grid0.coords t) → (cfgM m hO).idle 10 (grid0.coords t) = true :=
  (by decide +kernel : ∀ t : Fin grid0.N, ¬cond0_0 (grid0.coords t) → ¬cond0_1 (grid0.coords t) → idle0 10 (grid0.coords t) = true)
/-- At the points of case B the pipeline does not write output 10's block back. -/
theorem noFlush0_10_B (hO : Ok m) : ∀ t : Fin (cfgM m hO).N, ¬cond0_0 (grid0.coords t) → ¬cond0_1 (grid0.coords t) → ((cfgM m hO).win 10).flush t = false :=
  (by decide +kernel : ∀ t : Fin grid0.N, ¬cond0_0 (grid0.coords t) → ¬cond0_1 (grid0.coords t) → Pipeline.Window.flushOf grid0 true cc0_transform_10 t = false)
/-- At the points of case C the printed configuration (`Cfg.idle`) calls output 10 live: the case stores into it. -/
theorem liveAt0_10_C (hO : Ok m) : ∀ t : Fin (cfgM m hO).N, ¬cond0_0 (grid0.coords t) → cond0_1 (grid0.coords t) → (cfgM m hO).idle 10 (grid0.coords t) = false :=
  (by decide +kernel : ∀ t : Fin grid0.N, ¬cond0_0 (grid0.coords t) → cond0_1 (grid0.coords t) → idle0 10 (grid0.coords t) = false)
/-- At the points of case A the printed configuration (`Cfg.idle`) calls output 12 idle: the case stores nothing into it. -/
theorem idleAt0_12_A (hO : Ok m) : ∀ t : Fin (cfgM m hO).N, cond0_0 (grid0.coords t) → ¬cond0_1 (grid0.coords t) → (cfgM m hO).idle 12 (grid0.coords t) = true :=
  (by decide +kernel : ∀ t : Fin grid0.N, cond0_0 (grid0.coords t) → ¬cond0_1 (grid0.coords t) → idle0 12 (grid0.coords t) = true)
/-- At the points of case A the pipeline does not write output 12's block back. -/
theorem noFlush0_12_A (hO : Ok m) : ∀ t : Fin (cfgM m hO).N, cond0_0 (grid0.coords t) → ¬cond0_1 (grid0.coords t) → ((cfgM m hO).win 12).flush t = false :=
  (by decide +kernel : ∀ t : Fin grid0.N, cond0_0 (grid0.coords t) → ¬cond0_1 (grid0.coords t) → Pipeline.Window.flushOf grid0 true cc0_transform_12 t = false)
/-- At the points of case B the printed configuration (`Cfg.idle`) calls output 12 idle: the case stores nothing into it. -/
theorem idleAt0_12_B (hO : Ok m) : ∀ t : Fin (cfgM m hO).N, ¬cond0_0 (grid0.coords t) → ¬cond0_1 (grid0.coords t) → (cfgM m hO).idle 12 (grid0.coords t) = true :=
  (by decide +kernel : ∀ t : Fin grid0.N, ¬cond0_0 (grid0.coords t) → ¬cond0_1 (grid0.coords t) → idle0 12 (grid0.coords t) = true)
/-- At the points of case B the pipeline does not write output 12's block back. -/
theorem noFlush0_12_B (hO : Ok m) : ∀ t : Fin (cfgM m hO).N, ¬cond0_0 (grid0.coords t) → ¬cond0_1 (grid0.coords t) → ((cfgM m hO).win 12).flush t = false :=
  (by decide +kernel : ∀ t : Fin grid0.N, ¬cond0_0 (grid0.coords t) → ¬cond0_1 (grid0.coords t) → Pipeline.Window.flushOf grid0 true cc0_transform_12 t = false)
/-- At the points of case C the printed configuration (`Cfg.idle`) calls output 12 live: the case stores into it. -/
theorem liveAt0_12_C (hO : Ok m) : ∀ t : Fin (cfgM m hO).N, ¬cond0_0 (grid0.coords t) → cond0_1 (grid0.coords t) → (cfgM m hO).idle 12 (grid0.coords t) = false :=
  (by decide +kernel : ∀ t : Fin grid0.N, ¬cond0_0 (grid0.coords t) → cond0_1 (grid0.coords t) → idle0 12 (grid0.coords t) = false)
/-- At the points of case A the printed configuration (`Cfg.idle`) calls output 14 idle: the case stores nothing into it. -/
theorem idleAt0_14_A (hO : Ok m) : ∀ t : Fin (cfgM m hO).N, cond0_0 (grid0.coords t) → ¬cond0_1 (grid0.coords t) → (cfgM m hO).idle 14 (grid0.coords t) = true :=
  (by decide +kernel : ∀ t : Fin grid0.N, cond0_0 (grid0.coords t) → ¬cond0_1 (grid0.coords t) → idle0 14 (grid0.coords t) = true)
/-- At the points of case A the pipeline does not write output 14's block back. -/
theorem noFlush0_14_A (hO : Ok m) : ∀ t : Fin (cfgM m hO).N, cond0_0 (grid0.coords t) → ¬cond0_1 (grid0.coords t) → ((cfgM m hO).win 14).flush t = false :=
  (by decide +kernel : ∀ t : Fin grid0.N, cond0_0 (grid0.coords t) → ¬cond0_1 (grid0.coords t) → Pipeline.Window.flushOf grid0 true cc0_transform_14 t = false)
/-- At the points of case B the printed configuration (`Cfg.idle`) calls output 14 idle: the case stores nothing into it. -/
theorem idleAt0_14_B (hO : Ok m) : ∀ t : Fin (cfgM m hO).N, ¬cond0_0 (grid0.coords t) → ¬cond0_1 (grid0.coords t) → (cfgM m hO).idle 14 (grid0.coords t) = true :=
  (by decide +kernel : ∀ t : Fin grid0.N, ¬cond0_0 (grid0.coords t) → ¬cond0_1 (grid0.coords t) → idle0 14 (grid0.coords t) = true)
/-- At the points of case B the pipeline does not write output 14's block back. -/
theorem noFlush0_14_B (hO : Ok m) : ∀ t : Fin (cfgM m hO).N, ¬cond0_0 (grid0.coords t) → ¬cond0_1 (grid0.coords t) → ((cfgM m hO).win 14).flush t = false :=
  (by decide +kernel : ∀ t : Fin grid0.N, ¬cond0_0 (grid0.coords t) → ¬cond0_1 (grid0.coords t) → Pipeline.Window.flushOf grid0 true cc0_transform_14 t = false)
/-- At the points of case C the printed configuration (`Cfg.idle`) calls output 14 live: the case stores into it. -/
theorem liveAt0_14_C (hO : Ok m) : ∀ t : Fin (cfgM m hO).N, ¬cond0_0 (grid0.coords t) → cond0_1 (grid0.coords t) → (cfgM m hO).idle 14 (grid0.coords t) = false :=
  (by decide +kernel : ∀ t : Fin grid0.N, ¬cond0_0 (grid0.coords t) → cond0_1 (grid0.coords t) → idle0 14 (grid0.coords t) = false)

/-! ## The kernel body on any staging memrefs: a subtype the run finds -/

/-- One staging buffer of output window 8, through which its contents are stated (`View.read_writes_of_cover`: the
    choice does not matter). -/
abbrev VO0_8 : View sig .tc .vmem S1x128x1024 .f32 := (Memref.whole cc0_stg8_0 : Memref sig .tc .vmem S1x128x1024 .f32).view
/-- One staging buffer of output window 9, through which its contents are stated (`View.read_writes_of_cover`: the
    choice does not matter). -/
abbrev VO0_9 : View sig .tc .vmem S1x128x1024 .f32 := (Memref.whole cc0_stg9_0 : Memref sig .tc .vmem S1x128x1024 .f32).view
/-- One staging buffer of output window 10, through which its contents are stated (`View.read_writes_of_cover`: the
    choice does not matter). -/
abbrev VO0_10 : View sig .tc .vmem S1x128x128 .f32 := (Memref.whole cc0_stg10_0 : Memref sig .tc .vmem S1x128x128 .f32).view
/-- One staging buffer of output window 11, through which its contents are stated (`View.read_writes_of_cover`: the
    choice does not matter). -/
abbrev VO0_11 : View sig .tc .vmem S1x128x1024 .i8 := (Memref.whole cc0_stg11_0 : Memref sig .tc .vmem S1x128x1024 .i8).view
/-- One staging buffer of output window 12, through which its contents are stated (`View.read_writes_of_cover`: the
    choice does not matter). -/
abbrev VO0_12 : View sig .tc .vmem S1x128x20 .f32 := (Memref.whole cc0_stg12_0 : Memref sig .tc .vmem S1x128x20 .f32).view
/-- One staging buffer of output window 13, through which its contents are stated (`View.read_writes_of_cover`: the
    choice does not matter). -/
abbrev VO0_13 : View sig .tc .vmem S1x128x1024 .i8 := (Memref.whole cc0_stg13_0 : Memref sig .tc .vmem S1x128x1024 .i8).view
/-- One staging buffer of output window 14, through which its contents are stated (`View.read_writes_of_cover`: the
    choice does not matter). -/
abbrev VO0_14 : View sig .tc .vmem S1x128x20 .f32 := (Memref.whole cc0_stg14_0 : Memref sig .tc .vmem S1x128x20 .f32).view
/-- Each window's current staging memref at point `t`, spelled as the pipeline passes it (`bodyAt0`), and its wholeness. -/
abbrev ms0_0 (hO : Ok m) (t : Fin (cfgM m hO).N) : Memref sig .tc .vmem S1x128x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x1024 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x20 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x1024 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x20 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x128x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x128x1024 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x128x20 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x128x1024 .i8 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x128x20 .f32 := spec0_14.stage ((cfgM m hO).slots t 14)
abbrev hs0_14 (hO : Ok m) (t : Fin (cfgM m hO).N) : (ms0_14 m hO t).IsWhole := hstage0_14 (((cfgM m hO).slots t 14).cast nbuf0_14)
/-- The scratch operands: whole scoped buffers of the kernel's own, passed beside the windows. -/
abbrev scM0_0 : Memref sig .tc .vmem S128x128 .bf16 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
/-- The scratch `arg18` the kernel carries between points, as a view: what it holds is stated through it. -/
abbrev VS0_0 : View sig .tc .vmem S128x128 .bf16 := scM0_0.view
/-- The scratch `arg19` the kernel carries between points, as a view: what it holds is stated through it. -/
abbrev VS0_1 : View sig .tc .vmem S128x128 .f32 := scM0_1.view
/-- The scratch `arg20` the kernel carries between points, as a view: what it holds is stated through it. -/
abbrev VS0_2 : View sig .tc .vmem S128x128 .f32 := scM0_2.view
/-- The scratch `arg21` the kernel carries between points, as a view: what it holds is stated through it. -/
abbrev VS0_3 : View sig .tc .vmem S128x128 .f32 := scM0_3.view
/-- The scratch `arg22` the kernel carries between points, as a view: what it holds is stated through it. -/
abbrev VS0_4 : View sig .tc .vmem S128x128 .f32 := scM0_4.view
/-- The scratch `arg23` the kernel carries between points, as a view: what it holds is stated through it. -/
abbrev VS0_5 : View sig .tc .vmem S128x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.V.Block.lean ====
/- What one grid point of the kernel leaves in each buffer: four tiles of 256 columns side by side, and the scratch
   tiles after the four of them. Nothing here depends on which of the three cases the point is. -/
module

public import proofs.«01_k».proof.Proof.V.Tile
public import proofs.«01_k».proof.Proof.PI.Kit
public import Idealize.ShloMosaic.Lib.Pipeline.ValueKit
public import Idealize.ShloMosaic.Lib.Pipeline.ReadBack

@[expose] public section

set_option maxRecDepth 16384

noncomputable section

namespace Cert.KernelIdeal.Tile

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- Tile `t` of a block of 1024 columns lies inside it. -/
theorem inb_tile (t : Fin 4) : ∀ a, (![0, 0, 256 * t.val] : Fin 3 → ℕ) a + S1x128x256.size a ≤ S1x128x1024.size a := by
  revert t; decide

/-- Tile `t` of a block. -/
def sl {e : EltTy} (t : Fin 4) (x : Vec F S1x128x1024 e) : Vec F S1x128x256 e :=
  View.ld x (Rect.unit (s := S1x128x1024) ![0, 0, 256 * t.val] S1x128x256.size (inb_tile t))

/-- Four tiles side by side. -/
def stack {e : EltTy} (f : Fin 4 → Vec F S1x128x256 e) : Vec F S1x128x1024 e := fun y =>
  f ⟨(y 2 : Fin 1024).val / 256, by have h : (y 2 : Fin 1024).val < 1024 := (y 2).isLt; omega⟩ (ix3 (y 0 : Fin 1) (y 1 : Fin 128) ⟨(y 2 : Fin 1024).val % 256, Nat.mod_lt _ (by norm_num)⟩)

theorem stack_emb {e : EltTy} (f : Fin 4 → Vec F S1x128x256 e) (t : Fin 4) (h) (x : S1x128x256.Idx) :
    f t x = stack f ((Rect.unit (s := S1x128x1024) ![0, 0, 256 * t.val] S1x128x256.size h).emb x) := by
  idx_vars x
  unfold stack
  congr 1
  · apply Fin.ext; simp [Rect.emb_apply]; omega
  · have h2 : x2.val % 256 = x2.val := Nat.mod_eq_of_lt x2.isLt
    funext a; fin_cases a <;> apply Fin.ext <;> simp [Rect.emb_apply, h2]

/-- A buffer stored to in four tiles holds the four tiles side by side. -/
theorem read_stack {κ : Kind} {sp : Space} {e : EltTy} (v : View sig κ sp S1x128x1024 e) (f : v.ty.Contents (Elt F)) (g : Fin 4 → Vec F S1x128x256 e)
    (h0 h1 h2 h3) :
    v.read (Elt F) (v.writes (Elt F) f
      [⟨Rect.unit (s := S1x128x1024) ![0, 0, 768] S1x128x256.size h3, g 3⟩, ⟨Rect.unit (s := S1x128x1024) ![0, 0, 512] S1x128x256.size h2, g 2⟩,
        ⟨Rect.unit (s := S1x128x1024) ![0, 0, 256] S1x128x256.size h1, g 1⟩, ⟨Rect.unit (s := S1x128x1024) ![0, 0, 0] S1x128x256.size h0, g 0⟩]) = stack g := by
  have cov := View.cover_of_tiledL (Val := Elt F) (e := e) (s := S1x128x1024) [⟨Rect.unit (s := S1x128x1024) ![0, 0, 768] S1x128x256.size h3, g 3⟩, ⟨Rect.unit (s := S1x128x1024) ![0, 0, 512] S1x128x256.size h2, g 2⟩,
        ⟨Rect.unit (s := S1x128x1024) ![0, 0, 256] S1x128x256.size h1, g 1⟩, ⟨Rect.unit (s := S1x128x1024) ![0, 0, 0] S1x128x256.size h0, g 0⟩] S1x128x256.size (by sl_kernel_rfl)
  rw [View.read_writes_eq_canon _ _ _ cov]
  funext y
  rw [← List.append_nil (_ :: _ : List (View.Piece (Elt F) S1x128x1024 e))]
  refine View.canon_append_of_piecesOf (stack g) [] _ ?_ y (cov y)
  exact ⟨fun x => stack_emb g 3 h3 x, fun x => stack_emb g 2 h2 x, fun x => stack_emb g 1 h1 x, fun x => stack_emb g 0 h0 x, trivial⟩

/-- A scratch tile whose first twenty lanes are overwritten. -/
def ov (s : Vec F S128x128 .f32) (p : Vec F S128x20 .f32) : Vec F S128x128 .f32 := fun y =>
  if h : (y 1 : Fin 128).val < 20 then p (ix2 (y 0 : Fin 128) ⟨(y 1 : Fin 128).val, h⟩) else s y

theorem read_ov {κ : Kind} {sp : Space} (v : View sig κ sp S128x128 .f32) (f : v.ty.Contents (Elt F)) (s : Vec F S128x128 .f32) (p : Vec F S128x20 .f32)
    (h0) (hs : v.read (Elt F) f = s) :
    v.read (Elt F) (v.writes (Elt F) f [⟨Rect.unit (s := S128x128) ![0, 0] S128x20.size h0, p⟩]) = ov s p := by
  subst hs
  funext y
  unfold ov
  split
  · rename_i h
    have hy : y = (Rect.unit (s := S128x128) ![0, 0] S128x20.size h0).emb (ix2 (y 0 : Fin 128) ⟨(y 1 : Fin 128).val, h⟩) := by
      funext a; fin_cases a <;> apply Fin.ext <;> simp [Rect.emb_apply]
    conv_lhs => rw [hy]
    exact View.read_writes_cons_emb _ _ _ _ _ _
  · rename_i h
    rw [View.writes_cons, View.read_slice_write_of_not_mem]
    · rfl
    · rw [Rect.map_emb_univ]
      intro hm
      have h1 := ((Rect.mem_set_unit (inb := h0)).mp hm 1).2
      exact h (by simpa using h1)

/-- A buffer whose last store is of the whole holds what was stored. -/
theorem read_whole2 {κ : Kind} {sp : Space} {e : EltTy} (v : View sig κ sp S128x128 e) (f : v.ty.Contents (Elt F)) (p : Vec F S128x128 e) (L) (h0) :
    v.read (Elt F) (v.writes (Elt F) f (⟨Rect.unit (s := S128x128) ![0, 0] S128x128.size h0, p⟩ :: L)) = p := by
  rw [View.read_writes_eq_canon]
  · exact View.canon_cons_unit_zero (S := S128x128) (by funext a; fin_cases a <;> rfl) h0 p L
  · exact View.cover_of_wholeMem _ (View.Piece.wholeMem_here (by sl_kernel_rfl))

/-- A load of a whole scratch tile, -/
theorem ld2 {e : EltTy} (x : Vec F S128x128 e) (h) : View.ld x (Rect.unit (s := S128x128) ![0, 0] ![128, 128] h) = x :=
  View.ld_unit_zero (S := S128x128) (by funext a; fin_cases a <;> rfl) h x

/-- of a whole block of rotations, -/
theorem ld3 {e : EltTy} (x : Vec F S1x128x128 e) (h) : View.ld x (Rect.unit (s := S1x128x128) ![0, 0, 0] ![1, 128, 128] h) = x :=
  View.ld_unit_zero (S := S1x128x128) (by funext a; fin_cases a <;> rfl) h x

/-- of a whole block of scales, -/
theorem ld20 {e : EltTy} (x : Vec F S1x128x20 e) (h) : View.ld x (Rect.unit (s := S1x128x20) ![0, 0, 0] ![1, 128, 20] h) = x :=
  View.ld_unit_zero (S := S1x128x20) (by funext a; fin_cases a <;> rfl) h x

/-- of a whole block of 1024 columns, -/
theorem ld1024 {e : EltTy} (x : Vec F S1x128x1024 e) (h) : View.ld x (Rect.unit (s := S1x128x1024) ![0, 0, 0] ![1, 128, 1024] h) = x :=
  View.ld_unit_zero (S := S1x128x1024) (by funext a; fin_cases a <;> rfl) h x

/-- of a scratch tile stored to as a whole just before. -/
theorem rc2 {κ : Kind} {sp : Space} {e : EltTy} (v : View sig κ sp S128x128 e) (h h') (Z : Vec F S128x128 e) (L : List (View.Piece (Elt F) S128x128 e)) :
    v.readCov (⟨Rect.unit (s := S128x128) ![0, 0] ![128, 128] h, Z⟩ :: L) (Rect.unit (s := S128x128) ![0, 0] ![128, 128] h').toLoadRect = Z :=
  (View.readCov_fill v (s := S128x128) h Z L (Rect.unit (s := S128x128) ![0, 0] ![128, 128] h') (by intro a; fin_cases a <;> rfl)).trans (ld2 Z h')

/-- A load of the first twenty lanes of a scratch tile stored to as a whole just before. -/
theorem rc20 {κ : Kind} {sp : Space} {e : EltTy} (v : View sig κ sp S128x128 e) (h h') (Z : Vec F S128x128 e) (L : List (View.Piece (Elt F) S128x128 e)) :
    v.readCov (⟨Rect.unit (s := S128x128) ![0, 0] ![128, 128] h, Z⟩ :: L) (Rect.unit (s := S128x128) ![0, 0] ![128, 20] h').toLoadRect = View.ld Z (Rect.unit (s := S128x128) ![0, 0] ![128, 20] h') :=
  View.readCov_fill v (s := S128x128) h Z L (Rect.unit (s := S128x128) ![0, 0] ![128, 20] h') (by intro a; fin_cases a <;> rfl)

/-- Two windows stored to as a whole. -/
theorem read_whole3 {κ : Kind} {sp : Space} {e : EltTy} (v : View sig κ sp S1x128x128 e) (f : v.ty.Contents (Elt F)) (p : Vec F S1x128x128 e) (L) (h0) :
    v.read (Elt F) (v.writes (Elt F) f (⟨Rect.unit (s := S1x128x128) ![0, 0, 0] S1x128x128.size h0, p⟩ :: L)) = p := by
  rw [View.read_writes_eq_canon]
  · exact View.canon_cons_unit_zero (S := S1x128x128) (by funext a; fin_cases a <;> rfl) h0 p L
  · exact View.cover_of_wholeMem _ (View.Piece.wholeMem_here (by sl_kernel_rfl))

theorem read_whole20 {κ : Kind} {sp : Space} {e : EltTy} (v : View sig κ sp S1x128x20 e) (f : v.ty.Contents (Elt F)) (p : Vec F S1x128x20 e) (L) (h0) :
    v.read (Elt F) (v.writes (Elt F) f (⟨Rect.unit (s := S1x128x20) ![0, 0, 0] S1x128x20.size h0, p⟩ :: L)) = p := by
  rw [View.read_writes_eq_canon]
  · exact View.canon_cons_unit_zero (S := S1x128x20) (by funext a; fin_cases a <;> rfl) h0 p L
  · exact View.cover_of_wholeMem _ (View.Piece.wholeMem_here (by sl_kernel_rfl))

theorem read_ov' {sp : Space} (M : Memref sig .tc sp S128x128 .f32) (hM : M.IsWhole) (s : Vec F S128x128 .f32) (p : Vec F S128x20 .f32) (h0) :
    M.view.read (Elt F) (M.view.writes (Elt F) (hM.unread s) [⟨Rect.unit (s := S128x128) ![0, 0] ![128, 20] h0, p⟩]) = ov s p :=
  read_ov M.view _ s p h0 (hM.read_unread s)

/-- The step number of a point, out of the table. -/
def stepw (i : grid0.Coords) {c : Dev nD} (xt : TbBuf0 (F := F) c tbM0_0) : BitVec 32 :=
  View.readAt (Elt F) tbM0_0.view (Rect.unit (s := S5) (k0_off1 i) S1.size (k0_off1_inb i)).toLoadRect xt (Shape.Idx.first (show 0 < S1.numel by decide))

/-- The word of tile `t` of the grid column whose word is `a`. -/
def nt (a : BitVec 32) (t : Fin 4) : BitVec 32 := nw a (BitVec.ofNat 32 t.val)

/-- What a point leaves in its block of the updates, -/
def oD (a : BitVec 32) (sz : FVec F S1x256 .f32) (q : Vec F S1x128x128 .bf16) (qt : Vec F S128x128 .bf16) (ms vs : Vec F S128x128 .f32) (g : Vec F S1x128x1024 .bf16) (mc vc : Vec F S1x128x1024 .i8) : Vec F S1x128x1024 .f32 :=
  stack fun t => dT (nt a t) sz q qt ms vs (sl t g) (sl t mc) (sl t vc)

/-- of the weights, -/
def oW (a : BitVec 32) (sz : FVec F S1x256 .f32) (q : Vec F S1x128x128 .bf16) (qt : Vec F S128x128 .bf16) (ms vs : Vec F S128x128 .f32) (g : Vec F S1x128x1024 .bf16) (mc vc : Vec F S1x128x1024 .i8) (w : Vec F S1x128x1024 .f32) : Vec F S1x128x1024 .f32 :=
  stack fun t => wT (nt a t) sz q qt ms vs (sl t g) (sl t mc) (sl t vc) (sl t w)

/-- of the first moment's codes, -/
def oM (a : BitVec 32) (qt : Vec F S128x128 .bf16) (s : Vec F S128x128 .f32) (g : Vec F S1x128x1024 .bf16) (cd : Vec F S1x128x1024 .i8) : Vec F S1x128x1024 .i8 :=
  stack fun t => mcT (nt a t) qt s (sl t g) (sl t cd)

/-- of the second moment's codes, -/
def oV (a : BitVec 32) (qt : Vec F S128x128 .bf16) (s : Vec F S128x128 .f32) (g : Vec F S1x128x1024 .bf16) (cd : Vec F S1x128x1024 .i8) : Vec F S1x128x1024 .i8 :=
  stack fun t => vcT (nt a t) qt s (sl t g) (sl t cd)

/-- in the tile of the first moment's maxima, -/
def oMa (a : BitVec 32) (qt : Vec F S128x128 .bf16) (s : Vec F S128x128 .f32) (g : Vec F S1x128x1024 .bf16) (cd : Vec F S1x128x1024 .i8) (x : Vec F S128x128 .f32) : Vec F S128x128 .f32 :=
  let u t := upd (nt a t) (maT (nt a t) qt s (sl t g) (sl t cd)); u 3 (u 2 (u 1 (u 0 x)))

/-- and of the second's. -/
def oVa (a : BitVec 32) (qt : Vec F S128x128 .bf16) (s : Vec F S128x128 .f32) (g : Vec F S1x128x1024 .bf16) (cd : Vec F S1x128x1024 .i8) (x : Vec F S128x128 .f32) : Vec F S128x128 .f32 :=
  let u t := upd (nt a t) (vaT (nt a t) qt s (sl t g) (sl t cd)); u 3 (u 2 (u 1 (u 0 x)))

end Cert.KernelIdeal.Tile

end
-- ==== Proof.V.Lanes.lean ====
/- The lanes of the scratch tiles that the body reads and writes: a tile's scales are one lane, the lanes past the
   twentieth are never read, and the four tiles of a point overwrite four lanes of the maxima. -/
module

public import proofs.«01_k».proof.Proof.V.Block

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

/-- The number of the lane of tile `t` of grid column `j`. -/
theorem nt_eq (j : Fin 5) (t : Fin 4) : nt (BitVec.ofNat 32 j.val) t = BitVec.ofNat 32 (4 * j.val + t.val) := by
  revert j t; decide

theorem lane_word (n : Fin 20) :
    (Scalar.select (IntOp.cmpi .slt (BitVec.ofNat 32 n.val) 0#32) (IntOp.addi (BitVec.ofNat 32 n.val) 128#32) (BitVec.ofNat 32 n.val) : BitVec 32).toNat % 128 = n.val := by
  revert n; decide

theorem lane_eq (l : Fin 128) (n : Fin 20) : (IntOp.cmpi .eq (BitVec.ofNat 32 l.val) (BitVec.ofNat 32 n.val) = 1) ↔ l.val = n.val := by
  revert l n; decide +kernel

/-- The take along lanes at lane `n`, read. -/
theorem gather_at (n : Fin 20) (s : Vec F S128x128 .f32) (r l : Fin 128) :
    gather (BitVec.ofNat 32 n.val) s (ix2 r l) = s (ix2 r ⟨n.val, by have := n.isLt; omega⟩) := by
  pointwise [gather]
  congr 2
  exact Fin.ext (lane_word n)

/-- Replacing lane `n`, read. -/
theorem upd_at (n : Fin 20) (mx : FVec F S128x1 .f32) (s : Vec F S128x128 .f32) (r l : Fin 128) :
    upd (BitVec.ofNat 32 n.val) mx s (ix2 r l) = if l.val = n.val then mx (ix2 r 0) else s (ix2 r l) := by
  pointwise [upd, k0_pay28, k0_pay27]
  unfold Scalar.select
  simp only [lane_eq]

/-- Two scratch tiles agree on the first twenty lanes. -/
def Agree (s s' : Vec F S128x128 .f32) : Prop := ∀ (r l : Fin 128), l.val < 20 → s (ix2 r l) = s' (ix2 r l)

theorem Agree.gather {s s' : Vec F S128x128 .f32} (h : Agree s s') (n : Fin 20) : gather (BitVec.ofNat 32 n.val) s = gather (BitVec.ofNat 32 n.val) s' := by
  funext y
  idx_vars y
  rw [gather_at, gather_at]
  exact h _ _ n.isLt

theorem ov_at (s : Vec F S128x128 .f32) (p : Vec F S128x20 .f32) (r l : Fin 128) :
    ov s p (ix2 r l) = if h : l.val < 20 then p (ix2 r ⟨l.val, h⟩) else s (ix2 r l) := rfl

theorem agree_ov (s s' : Vec F S128x128 .f32) (p : Vec F S128x20 .f32) : Agree (ov s p) (ov s' p) := by
  intro r l h
  rw [ov_at, ov_at, dif_pos h, dif_pos h]

/-- The word of a tile is a lane below the twentieth. -/
def ln (j : Fin 5) (t : Fin 4) : Fin 20 := ⟨4 * j.val + t.val, by have := j.isLt; have := t.isLt; omega⟩

theorem nt_ln (j : Fin 5) (t : Fin 4) : nt (BitVec.ofNat 32 j.val) t = BitVec.ofNat 32 (ln j t).val := nt_eq j t

theorem Agree.deq {s s' : Vec F S128x128 .f32} (h : Agree s s') (j : Fin 5) (t : Fin 4) (cd : Vec F S1x128x256 .i8) :
    deq (nt (BitVec.ofNat 32 j.val) t) s cd = deq (nt (BitVec.ofNat 32 j.val) t) s' cd := by
  unfold Tile.deq
  rw [nt_ln, h.gather]

variable {s s' v v' : Vec F S128x128 .f32}

theorem Agree.mT (h : Agree s s') (j : Fin 5) (t : Fin 4) (qt g) (cd : Vec F S1x128x256 .i8) :
    mT (nt (BitVec.ofNat 32 j.val) t) qt s g cd = mT (nt (BitVec.ofNat 32 j.val) t) qt s' g cd := by
  unfold Tile.mT; rw [h.deq]

theorem Agree.maT (h : Agree s s') (j : Fin 5) (t : Fin 4) (qt g) (cd : Vec F S1x128x256 .i8) :
    maT (nt (BitVec.ofNat 32 j.val) t) qt s g cd = maT (nt (BitVec.ofNat 32 j.val) t) qt s' g cd := by
  unfold Tile.maT; rw [h.mT]

theorem Agree.vaT (h : Agree s s') (j : Fin 5) (t : Fin 4) (qt g) (cd : Vec F S1x128x256 .i8) :
    vaT (nt (BitVec.ofNat 32 j.val) t) qt s g cd = vaT (nt (BitVec.ofNat 32 j.val) t) qt s' g cd := by
  unfold Tile.vaT; rw [h.deq]

theorem Agree.oM (h : Agree s s') (j : Fin 5) (qt g cd) : oM (BitVec.ofNat 32 j.val) qt s g cd = oM (BitVec.ofNat 32 j.val) qt s' g cd := by
  unfold Tile.oM Tile.mcT; simp only [h.mT]

theorem Agree.oV (h : Agree s s') (j : Fin 5) (qt g cd) : oV (BitVec.ofNat 32 j.val) qt s g cd = oV (BitVec.ofNat 32 j.val) qt s' g cd := by
  unfold Tile.oV Tile.vcT Tile.vT; simp only [h.deq]

theorem Agree.oD (h : Agree s s') (h' : Agree v v') (j : Fin 5) (sz q qt g mc vc) :
    oD (BitVec.ofNat 32 j.val) sz q qt s v g mc vc = oD (BitVec.ofNat 32 j.val) sz q qt s' v' g mc vc := by
  unfold Tile.oD Tile.dT; simp only [h.mT, h'.deq]

theorem Agree.oW (h : Agree s s') (h' : Agree v v') (j : Fin 5) (sz q qt g mc vc w) :
    oW (BitVec.ofNat 32 j.val) sz q qt s v g mc vc w = oW (BitVec.ofNat 32 j.val) sz q qt s' v' g mc vc w := by
  unfold Tile.oW Tile.wT; simp only [h.mT, h'.deq]

/-- The four lanes a point overwrites, read. -/
theorem four (j : Fin 5) (u : Fin 4 → FVec F S128x1 .f32) (x : Vec F S128x128 .f32) (r l : Fin 128) :
    upd (nt (BitVec.ofNat 32 j.val) 3) (u 3) (upd (nt (BitVec.ofNat 32 j.val) 2) (u 2) (upd (nt (BitVec.ofNat 32 j.val) 1) (u 1) (upd (nt (BitVec.ofNat 32 j.val) 0) (u 0) x))) (ix2 r l)
      = if h : l.val / 4 = j.val then u ⟨l.val % 4, Nat.mod_lt _ (by norm_num)⟩ (ix2 r 0) else x (ix2 r l) := by
  rw [nt_ln, nt_ln, nt_ln, nt_ln, upd_at, upd_at, upd_at, upd_at]
  have lv : ∀ k : Fin 4, (ln j k).val = 4 * j.val + k.val := fun _ => rfl
  have key : ∀ k : Fin 4, l.val = (ln j k).val → (⟨l.val % 4, Nat.mod_lt _ (by norm_num)⟩ : Fin 4) = k := fun k e => Fin.ext (by
    have := k.isLt; have := lv k; show l.val % 4 = k.val; omega)
  have l0 := lv 0; have l1 := lv 1; have l2 := lv 2; have l3 := lv 3
  simp only [Fin.val_zero, Fin.val_one, Fin.val_two] at l0 l1 l2
  have e3 : ((3 : Fin 4) : ℕ) = 3 := rfl
  by_cases h : l.val / 4 = j.val
  · rw [dif_pos h]
    by_cases h3 : l.val = (ln j 3).val
    · rw [if_pos h3, key 3 h3]
    rw [if_neg h3]
    by_cases h2 : l.val = (ln j 2).val
    · rw [if_pos h2, key 2 h2]
    rw [if_neg h2]
    by_cases h1 : l.val = (ln j 1).val
    · rw [if_pos h1, key 1 h1]
    rw [if_neg h1]
    have h0 : l.val = (ln j 0).val := by omega
    rw [if_pos h0, key 0 h0]
  · rw [dif_neg h, if_neg (by omega), if_neg (by omega), if_neg (by omega), if_neg (by omega)]

/-- The maxima after a point, read. -/
theorem oMa_at (j : Fin 5) (qt : Vec F S128x128 .bf16) (s : Vec F S128x128 .f32) (g : Vec F S1x128x1024 .bf16) (cd : Vec F S1x128x1024 .i8) (x : Vec F S128x128 .f32) (r l : Fin 128) :
    oMa (BitVec.ofNat 32 j.val) qt s g cd x (ix2 r l) = if h : l.val / 4 = j.val then
      maT (nt (BitVec.ofNat 32 j.val) ⟨l.val % 4, Nat.mod_lt _ (by norm_num)⟩) qt s (sl ⟨l.val % 4, Nat.mod_lt _ (by norm_num)⟩ g) (sl ⟨l.val % 4, Nat.mod_lt _ (by norm_num)⟩ cd) (ix2 r 0) else x (ix2 r l) :=
  four j (fun t => maT (nt (BitVec.ofNat 32 j.val) t) qt s (sl t g) (sl t cd)) x r l

theorem oVa_at (j : Fin 5) (qt : Vec F S128x128 .bf16) (s : Vec F S128x128 .f32) (g : Vec F S1x128x1024 .bf16) (cd : Vec F S1x128x1024 .i8) (x : Vec F S128x128 .f32) (r l : Fin 128) :
    oVa (BitVec.ofNat 32 j.val) qt s g cd x (ix2 r l) = if h : l.val / 4 = j.val then
      vaT (nt (BitVec.ofNat 32 j.val) ⟨l.val % 4, Nat.mod_lt _ (by norm_num)⟩) qt s (sl ⟨l.val % 4, Nat.mod_lt _ (by norm_num)⟩ g) (sl ⟨l.val % 4, Nat.mod_lt _ (by norm_num)⟩ cd) (ix2 r 0) else x (ix2 r l) :=
  four j (fun t => vaT (nt (BitVec.ofNat 32 j.val) t) qt s (sl t g) (sl t cd)) x r l

end Cert.KernelIdeal.Tile

end
-- ==== Proof.V.State.lean ====
/- What the scratch holds in the middle of a batch entry, and what each grid point's stores are in terms of the argument
   arrays' blocks alone: the kernel's state over the points in closed form. -/
module

public import proofs.«01_k».proof.Proof.V.Lanes

@[expose] public section

set_option maxRecDepth 16384

noncomputable section

namespace Cert.KernelIdeal.Gen

open Idealize.ShloMosaic Idealize.ShloMosaic.TcCoe
open Cert.KernelIdeal Cert.KernelIdeal.Tile

variable {F : FTy → Type} [FloatOps F] [Named F]
variable (m : (ℓ : Loc nD τ sig) → Buf (Elt F) ℓ) (hO : Ok m) (c : Dev nD)

/-- Point `j` of batch entry `b`. -/
def p5 (b j : ℕ) : Fin (cfgM m hO).N := (⟨(5 * b + j) % 25, Nat.mod_lt _ (by norm_num)⟩ : Fin 25)

abbrev B0 (t : Fin (cfgM m hO).N) : Vec F S1x128x1024 .f32 := iblk m hO c 0 t
abbrev B1 (t : Fin (cfgM m hO).N) : Vec F S1x128x1024 .bf16 := iblk m hO c 1 t
abbrev B2 (t : Fin (cfgM m hO).N) : Vec F S1x128x128 .bf16 := iblk m hO c 2 t
abbrev B3 (t : Fin (cfgM m hO).N) : Vec F S1x128x1024 .i8 := iblk m hO c 3 t
abbrev B4 (t : Fin (cfgM m hO).N) : Vec F S1x128x20 .f32 := iblk m hO c 4 t
abbrev B5 (t : Fin (cfgM m hO).N) : Vec F S1x128x1024 .i8 := iblk m hO c 5 t
abbrev B6 (t : Fin (cfgM m hO).N) : Vec F S1x128x20 .f32 := iblk m hO c 6 t
abbrev B7 (t : Fin (cfgM m hO).N) : Vec F S1x128x128 .f32 := iblk m hO c 7 t

/-- The transposed rotation of batch entry `b`, -/
def qtB (b : ℕ) : Vec F S128x128 .bf16 := k0_pay4 (B2 m hO c (p5 m hO b 0))
/-- its decayed scales of the first moment, with any lanes past the twentieth, -/
def msB (b : ℕ) : Vec F S128x128 .f32 := ov (fun _ => Scalar.ofBits .f32 0#32) (k0_pay5 (B4 m hO c (p5 m hO b 0)))
/-- and of the second, -/
def vsB (b : ℕ) : Vec F S128x128 .f32 := ov (fun _ => Scalar.ofBits .f32 0#32) (k0_pay6 (B6 m hO c (p5 m hO b 0)))
/-- the step size, -/
def szB (t : Fin (cfgM m hO).N) : FVec F S1x256 .f32 := k0_pay8 (stepw (F := F) (c := c) (grid0.coords t) (tbl m 0))
/-- each block's maximum of the first moment, -/
def mxM (b : ℕ) : Vec F S128x20 .f32 := fun y =>
  let n : Fin 20 := y 1
  let j : ℕ := n.val / 4
  let k : Fin 4 := ⟨n.val % 4, Nat.mod_lt _ (by norm_num)⟩
  maT (nt (BitVec.ofNat 32 j) k) (qtB m hO c b) (msB m hO c b) (sl k (B1 m hO c (p5 m hO b j))) (sl k (B3 m hO c (p5 m hO b j))) (ix2 (y 0 : Fin 128) 0)
/-- and of the second, -/
def mxV (b : ℕ) : Vec F S128x20 .f32 := fun y =>
  let n : Fin 20 := y 1
  let j : ℕ := n.val / 4
  let k : Fin 4 := ⟨n.val % 4, Nat.mod_lt _ (by norm_num)⟩
  vaT (nt (BitVec.ofNat 32 j) k) (qtB m hO c b) (vsB m hO c b) (sl k (B1 m hO c (p5 m hO b j))) (sl k (B5 m hO c (p5 m hO b j))) (ix2 (y 0 : Fin 128) 0)
/-- the gradient's Gram matrix over the first `j` column blocks. -/
def ggB (b : ℕ) : ℕ → Vec F S128x128 .f32
  | 0 => k0_pay7
  | j + 1 => k0_pay9 (ggB b j) (B1 m hO c (p5 m hO b j)) (B1 m hO c (p5 m hO b j))

/-- The scratch after `j` points of batch entry `b`. -/
structure St (b j : ℕ) (x0 : Vec F S128x128 .bf16) (x1 x2 x3 x4 x5 : Vec F S128x128 .f32) : Prop where
  q : x0 = qtB m hO c b
  ms : Agree x1 (msB m hO c b)
  vs : Agree x2 (vsB m hO c b)
  ma : ∀ (r l : Fin 128) (h : l.val < 20), l.val < 4 * j → x3 (ix2 r l) = mxM m hO c b (ix2 r ⟨l.val, h⟩)
  va : ∀ (r l : Fin 128) (h : l.val < 20), l.val < 4 * j → x4 (ix2 r l) = mxV m hO c b (ix2 r ⟨l.val, h⟩)
  gg : x5 = ggB m hO c b j

variable {m hO c}

/-- A batch entry's first point fills the scratch from the entry's blocks. -/
theorem St.zero (b : ℕ) (x1 x2 x3 x4 : Vec F S128x128 .f32) :
    St m hO c b 0 (k0_pay4 (B2 m hO c (p5 m hO b 0))) (ov x1 (k0_pay5 (B4 m hO c (p5 m hO b 0)))) (ov x2 (k0_pay6 (B6 m hO c (p5 m hO b 0)))) x3 x4 k0_pay7 where
  q := rfl
  ms := agree_ov _ _ _
  vs := agree_ov _ _ _
  ma := fun r l h h0 => absurd h0 (by omega)
  va := fun r l h h0 => absurd h0 (by omega)
  gg := rfl

variable {b j : ℕ} {x0 : Vec F S128x128 .bf16} {x1 x2 x3 x4 x5 : Vec F S128x128 .f32}

/-- One point takes the scratch from `j` points to `j + 1`. -/
theorem St.succ (h : St m hO c b j x0 x1 x2 x3 x4 x5) (hj : j < 5) :
    St m hO c b (j + 1) x0 x1 x2 (oMa (BitVec.ofNat 32 j) x0 x1 (B1 m hO c (p5 m hO b j)) (B3 m hO c (p5 m hO b j)) x3)
      (oVa (BitVec.ofNat 32 j) x0 x2 (B1 m hO c (p5 m hO b j)) (B5 m hO c (p5 m hO b j)) x4)
      (k0_pay9 x5 (B1 m hO c (p5 m hO b j)) (B1 m hO c (p5 m hO b j))) where
  q := h.q
  ms := h.ms
  vs := h.vs
  ma := fun r l hl hj' => by
    rw [oMa_at ⟨j, hj⟩]
    split
    · rename_i e
      have e' : l.val / 4 = j := e
      subst e'
      rw [h.q, h.ms.maT ⟨l.val / 4, hj⟩]
      rfl
    · rename_i e
      have e' : ¬ l.val / 4 = j := e
      exact h.ma r l hl (by omega)
  va := fun r l hl hj' => by
    rw [oVa_at ⟨j, hj⟩]
    split
    · rename_i e
      have e' : l.val / 4 = j := e
      subst e'
      rw [h.q, h.vs.vaT ⟨l.val / 4, hj⟩]
      rfl
    · rename_i e
      have e' : ¬ l.val / 4 = j := e
      exact h.va r l hl (by omega)
  gg := by rw [h.gg]; rfl

/-- After the last point the first twenty lanes of the maxima are the entry's. -/
theorem St.ld_ma (h : St m hO c b 5 x0 x1 x2 x3 x4 x5) (inb) : View.ld x3 (Rect.unit (s := S128x128) ![0, 0] S128x20.size inb) = mxM m hO c b := by
  funext y
  idx_vars y
  refine Eq.trans (congrArg x3 ?_) (h.ma y0 ⟨y1.val, by have := y1.isLt; omega⟩ y1.isLt (by have := y1.isLt; show y1.val < 20; omega))
  funext a; fin_cases a <;> apply Fin.ext <;> simp [Rect.emb_apply]

theorem St.ld_va (h : St m hO c b 5 x0 x1 x2 x3 x4 x5) (inb) : View.ld x4 (Rect.unit (s := S128x128) ![0, 0] S128x20.size inb) = mxV m hO c b := by
  funext y
  idx_vars y
  refine Eq.trans (congrArg x4 ?_) (h.va y0 ⟨y1.val, by have := y1.isLt; omega⟩ y1.isLt (by have := y1.isLt; show y1.val < 20; omega))
  funext a; fin_cases a <;> apply Fin.ext <;> simp [Rect.emb_apply]

end Cert.KernelIdeal.Gen

end
-- ==== Proof.PI.RunA.lean ====
/- The whole-body run of the kernel in case A, by symbolic execution of the printed skeleton, on scratch buffers held at arbitrary known contents. -/
module

public import proofs.«01_k».proof.Proof.PI.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body leaves in each buffer in case A, as the pieces written (last first), with the proof that it runs from the inputs at their contents and the scratch at `xs·` to those pieces. -/
noncomputable def kernelRun0_A (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : cond0_0 i) (hc1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (xs0 : Vec F S128x128 .bf16) (xs1 : Vec F S128x128 .f32) (xs2 : Vec F S128x128 .f32) (xs3 : Vec F S128x128 .f32) (xs4 : Vec F S128x128 .f32) (xs5 : Vec F S128x128 .f32) :
    Σ' (L8 : List (View.Piece (Elt F) S1x128x1024 .f32)), Σ' (L9 : List (View.Piece (Elt F) S1x128x1024 .f32)), Σ' (L10 : List (View.Piece (Elt F) S1x128x128 .f32)), Σ' (L11 : List (View.Piece (Elt F) S1x128x1024 .i8)), Σ' (L12 : List (View.Piece (Elt F) S1x128x20 .f32)), Σ' (L13 : List (View.Piece (Elt F) S1x128x1024 .i8)), Σ' (L14 : List (View.Piece (Elt F) S1x128x20 .f32)), Σ' (LS0 : List (View.Piece (Elt F) S128x128 .bf16)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), { LS5 : List (View.Piece (Elt F) S128x128 .f32) //
      ∀ (xi10 : Vec F S1x128x128 .f32) (xi12 : Vec F S1x128x20 .f32) (xi14 : Vec F S1x128x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xi10 ∗ (∃ d, owns (c : Thread nD τ) arg14 fullShare d) ∗ owns (c : Thread nD τ) arg15 fullShare xi12 ∗ (∃ d, owns (c : Thread nD τ) arg16 fullShare d) ∗ owns (c : Thread nD τ) arg17 fullShare xi14 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4 ∗ owns (c : Thread nD τ) arg23 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xi10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f L13) ∗ owns (c : Thread nD τ) arg17 fullShare xi14 ∗ (∃ f, arg18.view.loc (c : Thread nD τ) ↦[arg18.view.set]{fullShare} arg18.view.writes (Elt F) f LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, [], ?_, [], ?_, [], ?_, ?_, ?_, ?_, ?_, ?_, fun xi10 xi12 xi14 E K => ?run⟩
  case run =>
    simp only [cc0_soap_step_eq_skeleton]; unfold cc0_soap_step_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%d13, %f13, -, H13⟩, ⟨%f14, %hf14, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hf10; obtain rfl := harg15.eq_unread hf12; obtain rfl := harg17.eq_unread hf14; obtain rfl := harg18.eq_unread hfs0; obtain rfl := harg19.eq_unread hfs1; obtain rfl := harg20.eq_unread hfs2; obtain rfl := harg21.eq_unread hfs3; obtain rfl := harg22.eq_unread hfs4; obtain rfl := harg23.eq_unread hfs5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    isplitl [H13]; · iexists _; iexact H13
    isplitl [H14]
    · iexists _; isplitr; · ipureintro; exact harg17.read_unread _
      iexact H14
    isplitl [HS0]; · iexists _; iexact HS0
    isplitl [HS1]; · iexact HS1
    isplitl [HS2]; · iexact HS2
    isplitl [HS3]; · iexists _; iexact HS3
    isplitl [HS4]; · iexists _; iexact HS4
    isplitl [HS5]; · iexists _; iexact HS5
    iexact HT0

end Cert.KernelIdeal.Gen

end
-- ==== Proof.V.PointA.lean ====
/- What the body leaves in case A, as values: each buffer the run stores to reads as the block's functions of the
   inputs and of the scratch the point began with. -/
module

public import proofs.«01_k».proof.Proof.PI.RunA
public import proofs.«01_k».proof.Proof.V.Block

@[expose] public section

set_option maxRecDepth 16384

noncomputable section

namespace Cert.KernelIdeal.Gen

open Idealize.ShloMosaic Idealize.ShloMosaic.TcCoe Idealize.ShloMosaic.Tactic
open Cert.KernelIdeal.Tile

variable {F : FTy → Type} [FloatOps F] [Named F]

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : cond0_0 i) (c1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

theorem v11_A (f) :
    a11.view.read (Elt F) (a11.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).1) = oW (BitVec.ofNat 32 ↑(i 1)) (k0_pay8 (stepw i xt)) x2 (k0_pay4 x2) (ov s1 (k0_pay5 x4)) (ov s2 (k0_pay6 x6)) x1 x3 x5 x0 := by
  unfold kernelRun0_A; dsimp only; sl_unfold_words
  simp only [View.readAt_eq_ld, Memref.IsWhole.read_unread, ld2, ld3, ld20, ld1024, rc2, rc20, read_ov']
  exact read_stack a11.view f (fun t => wT (nt (BitVec.ofNat 32 ↑(i 1)) t) (k0_pay8 (stepw i xt)) x2 (k0_pay4 x2) (ov s1 (k0_pay5 x4)) (ov s2 (k0_pay6 x6)) (sl t x1) (sl t x3) (sl t x5) (sl t x0)) _ _ _ _

theorem v12_A (f) :
    a12.view.read (Elt F) (a12.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.1) = oD (BitVec.ofNat 32 ↑(i 1)) (k0_pay8 (stepw i xt)) x2 (k0_pay4 x2) (ov s1 (k0_pay5 x4)) (ov s2 (k0_pay6 x6)) x1 x3 x5 := by
  unfold kernelRun0_A; dsimp only; sl_unfold_words
  simp only [View.readAt_eq_ld, Memref.IsWhole.read_unread, ld2, ld3, ld20, ld1024, rc2, rc20, read_ov']
  exact read_stack a12.view f (fun t => dT (nt (BitVec.ofNat 32 ↑(i 1)) t) (k0_pay8 (stepw i xt)) x2 (k0_pay4 x2) (ov s1 (k0_pay5 x4)) (ov s2 (k0_pay6 x6)) (sl t x1) (sl t x3) (sl t x5)) _ _ _ _

theorem v14_A (f) :
    a14.view.read (Elt F) (a14.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.1) = oM (BitVec.ofNat 32 ↑(i 1)) (k0_pay4 x2) (ov s1 (k0_pay5 x4)) x1 x3 := by
  unfold kernelRun0_A; dsimp only; sl_unfold_words
  simp only [View.readAt_eq_ld, Memref.IsWhole.read_unread, ld2, ld3, ld20, ld1024, rc2, rc20, read_ov']
  exact read_stack a14.view f (fun t => mcT (nt (BitVec.ofNat 32 ↑(i 1)) t) (k0_pay4 x2) (ov s1 (k0_pay5 x4)) (sl t x1) (sl t x3)) _ _ _ _

theorem v16_A (f) :
    a16.view.read (Elt F) (a16.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.1) = oV (BitVec.ofNat 32 ↑(i 1)) (k0_pay4 x2) (ov s2 (k0_pay6 x6)) x1 x5 := by
  unfold kernelRun0_A; dsimp only; sl_unfold_words
  simp only [View.readAt_eq_ld, Memref.IsWhole.read_unread, ld2, ld3, ld20, ld1024, rc2, rc20, read_ov']
  exact read_stack a16.view f (fun t => vcT (nt (BitVec.ofNat 32 ↑(i 1)) t) (k0_pay4 x2) (ov s2 (k0_pay6 x6)) (sl t x1) (sl t x5)) _ _ _ _

theorem v21_A (f) :
    a21.view.read (Elt F) (a21.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.1) = (oMa (BitVec.ofNat 32 ↑(i 1)) (k0_pay4 x2) (ov s1 (k0_pay5 x4)) x1 x3 s3) := by
  unfold kernelRun0_A; dsimp only; sl_unfold_words
  simp only [View.readAt_eq_ld, Memref.IsWhole.read_unread, ld2, ld3, ld20, ld1024, rc2, rc20, read_ov']
  exact read_whole2 a21.view f _ _ _

theorem v22_A (f) :
    a22.view.read (Elt F) (a22.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.1) = (oVa (BitVec.ofNat 32 ↑(i 1)) (k0_pay4 x2) (ov s2 (k0_pay6 x6)) x1 x5 s4) := by
  unfold kernelRun0_A; dsimp only; sl_unfold_words
  simp only [View.readAt_eq_ld, Memref.IsWhole.read_unread, ld2, ld3, ld20, ld1024, rc2, rc20, read_ov']
  exact read_whole2 a22.view f _ _ _

theorem v23_A (f) :
    a23.view.read (Elt F) (a23.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.1) = (k0_pay9 k0_pay7 x1 x1) := by
  unfold kernelRun0_A; dsimp only; sl_unfold_words
  simp only [View.readAt_eq_ld, Memref.IsWhole.read_unread, ld2, ld3, ld20, ld1024, rc2, rc20, read_ov']
  exact read_whole2 a23.view f _ _ _

theorem v18_A (f) :
    a18.view.read (Elt F) (a18.view.writes (Elt F) f (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.1) = (k0_pay4 x2) := by
  unfold kernelRun0_A; dsimp only; sl_unfold_words
  simp only [View.readAt_eq_ld, Memref.IsWhole.read_unread, ld2, ld3, ld20, ld1024, rc2, rc20, read_ov']
  exact read_whole2 a18.view f _ _ _

theorem v19_A :
    a19.view.read (Elt F) (a19.view.writes (Elt F) (h19.unread s1) (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.1) = ov s1 (k0_pay5 x4) := by
  unfold kernelRun0_A; dsimp only; sl_unfold_words
  simp only [View.readAt_eq_ld, Memref.IsWhole.read_unread, ld2, ld3, ld20, ld1024, rc2, rc20]
  exact read_ov a19.view _ _ _ _ (h19.read_unread _)

theorem v20_A :
    a20.view.read (Elt F) (a20.view.writes (Elt F) (h20.unread s2) (kernelRun0_A (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.1) = ov s2 (k0_pay6 x6) := by
  unfold kernelRun0_A; dsimp only; sl_unfold_words
  simp only [View.readAt_eq_ld, Memref.IsWhole.read_unread, ld2, ld3, ld20, ld1024, rc2, rc20]
  exact read_ov a20.view _ _ _ _ (h20.read_unread _)

end Cert.KernelIdeal.Gen

end
-- ==== Proof.V.Owns.lean ====
/- A buffer held at contents that are stores over anything is owned at what those stores read as. -/
module

public import proofs.«01_k».proof.Proof.PI.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem owns_at (c : Dev nD) {sp : Space} {s : Shape} {e : EltTy} (M : Memref sig .tc sp s e) (f : M.view.ty.Contents (Elt F)) (X : Vec F s e)
    (h : M.view.read (Elt F) f = X) :
    iprop(M.view.loc (c : Thread nD τ) ↦[M.view.set]{fullShare} f) ⊢ (owns (c : Thread nD τ) M fullShare X : sProp 𝕄) := by
  unfold owns
  iintro H
  iexists f
  isplitr; swap; · iexact H
  ipureintro; exact h

theorem owns_of (c : Dev nD) {sp : Space} {s : Shape} {e : EltTy} (M : Memref sig .tc sp s e) (L : List (View.Piece (Elt F) s e)) (X : Vec F s e)
    (h : ∀ f, M.view.read (Elt F) (M.view.writes (Elt F) f L) = X) :
    iprop(∃ f, M.view.loc (c : Thread nD τ) ↦[M.view.set]{fullShare} M.view.writes (Elt F) f L) ⊢ (owns (c : Thread nD τ) M fullShare X : sProp 𝕄) := by
  iintro ⟨%f, H⟩
  iapply (owns_at c M _ X (h f)) $$ H

end Cert.KernelIdeal.Gen

end
-- ==== Proof.V.StepA.lean ====
/- The body in case A, its result given by values: what each buffer holds after it. -/
module

public import proofs.«01_k».proof.Proof.V.PointA
public import proofs.«01_k».proof.Proof.V.Owns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Tile

variable {F : FTy → Type} [FloatOps F] [Named F]

local notation "𝕄" => MT nD τ sig Unit (Elt F) ℕ (UR sig nD τ) ℕ

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : cond0_0 i) (c1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

include c0 c1 in
set_option maxHeartbeats 2000000 in
/-- The body in case A. -/
theorem step_A (xi10 : Vec F S1x128x128 .f32) (xi12 : Vec F S1x128x20 .f32) (xi14 : Vec F S1x128x20 .f32) (E : Set ℕ) (K : PUnit → sProp 𝕄) :
    iprop(owns (c : Thread nD τ) a3 fullShare x0
      ∗ owns (c : Thread nD τ) a4 fullShare x1
      ∗ owns (c : Thread nD τ) a5 fullShare x2
      ∗ owns (c : Thread nD τ) a6 fullShare x3
      ∗ owns (c : Thread nD τ) a7 fullShare x4
      ∗ owns (c : Thread nD τ) a8 fullShare x5
      ∗ owns (c : Thread nD τ) a9 fullShare x6
      ∗ owns (c : Thread nD τ) a10 fullShare x7
      ∗ (∃ d, owns (c : Thread nD τ) a11 fullShare d)
      ∗ (∃ d, owns (c : Thread nD τ) a12 fullShare d)
      ∗ owns (c : Thread nD τ) a13 fullShare xi10
      ∗ (∃ d, owns (c : Thread nD τ) a14 fullShare d)
      ∗ owns (c : Thread nD τ) a15 fullShare xi12
      ∗ (∃ d, owns (c : Thread nD τ) a16 fullShare d)
      ∗ owns (c : Thread nD τ) a17 fullShare xi14
      ∗ owns (c : Thread nD τ) a18 fullShare s0
      ∗ owns (c : Thread nD τ) a19 fullShare s1
      ∗ owns (c : Thread nD τ) a20 fullShare s2
      ∗ owns (c : Thread nD τ) a21 fullShare s3
      ∗ owns (c : Thread nD τ) a22 fullShare s4
      ∗ owns (c : Thread nD τ) a23 fullShare s5
      ∗ tbPt0 c tbM0_0 xt
      ∗ (iprop(owns (c : Thread nD τ) a3 fullShare x0
        ∗ owns (c : Thread nD τ) a4 fullShare x1
        ∗ owns (c : Thread nD τ) a5 fullShare x2
        ∗ owns (c : Thread nD τ) a6 fullShare x3
        ∗ owns (c : Thread nD τ) a7 fullShare x4
        ∗ owns (c : Thread nD τ) a8 fullShare x5
        ∗ owns (c : Thread nD τ) a9 fullShare x6
        ∗ owns (c : Thread nD τ) a10 fullShare x7
        ∗ owns (c : Thread nD τ) a11 fullShare (oW (BitVec.ofNat 32 ↑(i 1)) (k0_pay8 (stepw i xt)) x2 (k0_pay4 x2) (ov s1 (k0_pay5 x4)) (ov s2 (k0_pay6 x6)) x1 x3 x5 x0)
        ∗ owns (c : Thread nD τ) a12 fullShare (oD (BitVec.ofNat 32 ↑(i 1)) (k0_pay8 (stepw i xt)) x2 (k0_pay4 x2) (ov s1 (k0_pay5 x4)) (ov s2 (k0_pay6 x6)) x1 x3 x5)
        ∗ owns (c : Thread nD τ) a13 fullShare xi10
        ∗ owns (c : Thread nD τ) a14 fullShare (oM (BitVec.ofNat 32 ↑(i 1)) (k0_pay4 x2) (ov s1 (k0_pay5 x4)) x1 x3)
        ∗ owns (c : Thread nD τ) a15 fullShare xi12
        ∗ owns (c : Thread nD τ) a16 fullShare (oV (BitVec.ofNat 32 ↑(i 1)) (k0_pay4 x2) (ov s2 (k0_pay6 x6)) x1 x5)
        ∗ owns (c : Thread nD τ) a17 fullShare xi14
        ∗ owns (c : Thread nD τ) a18 fullShare ((k0_pay4 x2))
        ∗ owns (c : Thread nD τ) a19 fullShare (ov s1 (k0_pay5 x4))
        ∗ owns (c : Thread nD τ) a20 fullShare (ov s2 (k0_pay6 x6))
        ∗ owns (c : Thread nD τ) a21 fullShare ((oMa (BitVec.ofNat 32 ↑(i 1)) (k0_pay4 x2) (ov s1 (k0_pay5 x4)) x1 x3 s3))
        ∗ owns (c : Thread nD τ) a22 fullShare ((oVa (BitVec.ofNat 32 ↑(i 1)) (k0_pay4 x2) (ov s2 (k0_pay6 x6)) x1 x5 s4))
        ∗ owns (c : Thread nD τ) a23 fullShare ((k0_pay9 k0_pay7 x1 x1))
        ∗ tbPt0 c tbM0_0 xt) -∗ K ⟨⟩))
    ⊢ wp frame (wpE (defs₀ (F := F)) Variants.none c none) E (cc0_soap_step i tbM0_0 htbM0_0 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨H0, H1, H2, H3, H4, H5, H6, H7, H8, H9, H10, H11, H12, H13, H14, HS0, HS1, HS2, HS3, HS4, HS5, HT0, Hk⟩
  iapply ((kernelRun0_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.property xi10 xi12 xi14 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, H10, H11, H12, H13, H14, HS0, HS1, HS2, HS3, HS4, HS5, HT0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_of c a11 _ _ (v11_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H8
  isplitl [H9]; · iapply (owns_of c a12 _ _ (v12_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H9
  isplitl [H10]; · iexact H10
  isplitl [H11]; · iapply (owns_of c a14 _ _ (v14_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H11
  isplitl [H12]; · iexact H12
  isplitl [H13]; · iapply (owns_of c a16 _ _ (v16_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H13
  isplitl [H14]; · iexact H14
  isplitl [HS0]; · iapply (owns_of c a18 _ _ (v18_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS0
  isplitl [HS1]; · iapply (owns_at c a19 _ _ (v19_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS1
  isplitl [HS2]; · iapply (owns_at c a20 _ _ (v20_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS2
  isplitl [HS3]; · iapply (owns_of c a21 _ _ (v21_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS3
  isplitl [HS4]; · iapply (owns_of c a22 _ _ (v22_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS4
  isplitl [HS5]; · iapply (owns_of c a23 _ _ (v23_A c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS5
  iexact HT0

end Cert.KernelIdeal.Gen

end
-- ==== Proof.PI.RunB.lean ====
/- The whole-body run of the kernel in case B, by symbolic execution of the printed skeleton, on scratch buffers held at arbitrary known contents. -/
module

public import proofs.«01_k».proof.Proof.PI.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body leaves in each buffer in case B, as the pieces written (last first), with the proof that it runs from the inputs at their contents and the scratch at `xs·` to those pieces. -/
noncomputable def kernelRun0_B (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : ¬cond0_0 i) (hc1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (xs0 : Vec F S128x128 .bf16) (xs1 : Vec F S128x128 .f32) (xs2 : Vec F S128x128 .f32) (xs3 : Vec F S128x128 .f32) (xs4 : Vec F S128x128 .f32) (xs5 : Vec F S128x128 .f32) :
    Σ' (L8 : List (View.Piece (Elt F) S1x128x1024 .f32)), Σ' (L9 : List (View.Piece (Elt F) S1x128x1024 .f32)), Σ' (L10 : List (View.Piece (Elt F) S1x128x128 .f32)), Σ' (L11 : List (View.Piece (Elt F) S1x128x1024 .i8)), Σ' (L12 : List (View.Piece (Elt F) S1x128x20 .f32)), Σ' (L13 : List (View.Piece (Elt F) S1x128x1024 .i8)), Σ' (L14 : List (View.Piece (Elt F) S1x128x20 .f32)), Σ' (LS0 : List (View.Piece (Elt F) S128x128 .bf16)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), { LS5 : List (View.Piece (Elt F) S128x128 .f32) //
      ∀ (xi10 : Vec F S1x128x128 .f32) (xi12 : Vec F S1x128x20 .f32) (xi14 : Vec F S1x128x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xi10 ∗ (∃ d, owns (c : Thread nD τ) arg14 fullShare d) ∗ owns (c : Thread nD τ) arg15 fullShare xi12 ∗ (∃ d, owns (c : Thread nD τ) arg16 fullShare d) ∗ owns (c : Thread nD τ) arg17 fullShare xi14 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4 ∗ owns (c : Thread nD τ) arg23 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xi10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f L13) ∗ owns (c : Thread nD τ) arg17 fullShare xi14 ∗ owns (c : Thread nD τ) arg18 fullShare xs0 ∗ owns (c : Thread nD τ) arg19 fullShare xs1 ∗ owns (c : Thread nD τ) arg20 fullShare xs2 ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, [], ?_, [], ?_, [], [], [], [], ?_, ?_, ?_, fun xi10 xi12 xi14 E K => ?run⟩
  case run =>
    simp only [cc0_soap_step_eq_skeleton]; unfold cc0_soap_step_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%d13, %f13, -, H13⟩, ⟨%f14, %hf14, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hf10; obtain rfl := harg15.eq_unread hf12; obtain rfl := harg17.eq_unread hf14; obtain rfl := harg18.eq_unread hfs0; obtain rfl := harg19.eq_unread hfs1; obtain rfl := harg20.eq_unread hfs2; obtain rfl := harg21.eq_unread hfs3; obtain rfl := harg22.eq_unread hfs4; obtain rfl := harg23.eq_unread hfs5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    isplitl [H13]; · iexists _; iexact H13
    isplitl [H14]
    · iexists _; isplitr; · ipureintro; exact harg17.read_unread _
      iexact H14
    isplitl [HS0]
    · iexists _; isplitr; · ipureintro; exact harg18.read_unread _
      iexact HS0
    isplitl [HS1]
    · iexists _; isplitr; · ipureintro; exact harg19.read_unread _
      iexact HS1
    isplitl [HS2]
    · iexists _; isplitr; · ipureintro; exact harg20.read_unread _
      iexact HS2
    isplitl [HS3]; · iexists _; iexact HS3
    isplitl [HS4]; · iexists _; iexact HS4
    isplitl [HS5]; · iexists _; iexact HS5
    iexact HT0

end Cert.KernelIdeal.Gen

end
-- ==== Proof.V.PointB.lean ====
/- What the body leaves in case B, as values: each buffer the run stores to reads as the block's functions of the
   inputs and of the scratch the point began with. -/
module

public import proofs.«01_k».proof.Proof.PI.RunB
public import proofs.«01_k».proof.Proof.V.Block

@[expose] public section

set_option maxRecDepth 16384

noncomputable section

namespace Cert.KernelIdeal.Gen

open Idealize.ShloMosaic Idealize.ShloMosaic.TcCoe Idealize.ShloMosaic.Tactic
open Cert.KernelIdeal.Tile

variable {F : FTy → Type} [FloatOps F] [Named F]

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : ¬cond0_0 i) (c1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

theorem v11_B (f) :
    a11.view.read (Elt F) (a11.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).1) = oW (BitVec.ofNat 32 ↑(i 1)) (k0_pay8 (stepw i xt)) x2 s0 s1 s2 x1 x3 x5 x0 := by
  unfold kernelRun0_B; dsimp only; sl_unfold_words
  simp only [View.readAt_eq_ld, Memref.IsWhole.read_unread, ld2, ld3, ld20, ld1024, rc2, rc20, read_ov']
  exact read_stack a11.view f (fun t => wT (nt (BitVec.ofNat 32 ↑(i 1)) t) (k0_pay8 (stepw i xt)) x2 s0 s1 s2 (sl t x1) (sl t x3) (sl t x5) (sl t x0)) _ _ _ _

theorem v12_B (f) :
    a12.view.read (Elt F) (a12.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.1) = oD (BitVec.ofNat 32 ↑(i 1)) (k0_pay8 (stepw i xt)) x2 s0 s1 s2 x1 x3 x5 := by
  unfold kernelRun0_B; dsimp only; sl_unfold_words
  simp only [View.readAt_eq_ld, Memref.IsWhole.read_unread, ld2, ld3, ld20, ld1024, rc2, rc20, read_ov']
  exact read_stack a12.view f (fun t => dT (nt (BitVec.ofNat 32 ↑(i 1)) t) (k0_pay8 (stepw i xt)) x2 s0 s1 s2 (sl t x1) (sl t x3) (sl t x5)) _ _ _ _

theorem v14_B (f) :
    a14.view.read (Elt F) (a14.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.1) = oM (BitVec.ofNat 32 ↑(i 1)) s0 s1 x1 x3 := by
  unfold kernelRun0_B; dsimp only; sl_unfold_words
  simp only [View.readAt_eq_ld, Memref.IsWhole.read_unread, ld2, ld3, ld20, ld1024, rc2, rc20, read_ov']
  exact read_stack a14.view f (fun t => mcT (nt (BitVec.ofNat 32 ↑(i 1)) t) s0 s1 (sl t x1) (sl t x3)) _ _ _ _

theorem v16_B (f) :
    a16.view.read (Elt F) (a16.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.1) = oV (BitVec.ofNat 32 ↑(i 1)) s0 s2 x1 x5 := by
  unfold kernelRun0_B; dsimp only; sl_unfold_words
  simp only [View.readAt_eq_ld, Memref.IsWhole.read_unread, ld2, ld3, ld20, ld1024, rc2, rc20, read_ov']
  exact read_stack a16.view f (fun t => vcT (nt (BitVec.ofNat 32 ↑(i 1)) t) s0 s2 (sl t x1) (sl t x5)) _ _ _ _

theorem v21_B (f) :
    a21.view.read (Elt F) (a21.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.1) = (oMa (BitVec.ofNat 32 ↑(i 1)) s0 s1 x1 x3 s3) := by
  unfold kernelRun0_B; dsimp only; sl_unfold_words
  simp only [View.readAt_eq_ld, Memref.IsWhole.read_unread, ld2, ld3, ld20, ld1024, rc2, rc20, read_ov']
  exact read_whole2 a21.view f _ _ _

theorem v22_B (f) :
    a22.view.read (Elt F) (a22.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.1) = (oVa (BitVec.ofNat 32 ↑(i 1)) s0 s2 x1 x5 s4) := by
  unfold kernelRun0_B; dsimp only; sl_unfold_words
  simp only [View.readAt_eq_ld, Memref.IsWhole.read_unread, ld2, ld3, ld20, ld1024, rc2, rc20, read_ov']
  exact read_whole2 a22.view f _ _ _

theorem v23_B (f) :
    a23.view.read (Elt F) (a23.view.writes (Elt F) f (kernelRun0_B (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.1) = (k0_pay9 s5 x1 x1) := by
  unfold kernelRun0_B; dsimp only; sl_unfold_words
  simp only [View.readAt_eq_ld, Memref.IsWhole.read_unread, ld2, ld3, ld20, ld1024, rc2, rc20, read_ov']
  exact read_whole2 a23.view f _ _ _

end Cert.KernelIdeal.Gen

end
-- ==== Proof.V.StepB.lean ====
/- The body in case B, its result given by values: what each buffer holds after it. -/
module

public import proofs.«01_k».proof.Proof.V.PointB
public import proofs.«01_k».proof.Proof.V.Owns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Tile

variable {F : FTy → Type} [FloatOps F] [Named F]

local notation "𝕄" => MT nD τ sig Unit (Elt F) ℕ (UR sig nD τ) ℕ

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : ¬cond0_0 i) (c1 : ¬cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

include c0 c1 in
set_option maxHeartbeats 2000000 in
/-- The body in case B. -/
theorem step_B (xi10 : Vec F S1x128x128 .f32) (xi12 : Vec F S1x128x20 .f32) (xi14 : Vec F S1x128x20 .f32) (E : Set ℕ) (K : PUnit → sProp 𝕄) :
    iprop(owns (c : Thread nD τ) a3 fullShare x0
      ∗ owns (c : Thread nD τ) a4 fullShare x1
      ∗ owns (c : Thread nD τ) a5 fullShare x2
      ∗ owns (c : Thread nD τ) a6 fullShare x3
      ∗ owns (c : Thread nD τ) a7 fullShare x4
      ∗ owns (c : Thread nD τ) a8 fullShare x5
      ∗ owns (c : Thread nD τ) a9 fullShare x6
      ∗ owns (c : Thread nD τ) a10 fullShare x7
      ∗ (∃ d, owns (c : Thread nD τ) a11 fullShare d)
      ∗ (∃ d, owns (c : Thread nD τ) a12 fullShare d)
      ∗ owns (c : Thread nD τ) a13 fullShare xi10
      ∗ (∃ d, owns (c : Thread nD τ) a14 fullShare d)
      ∗ owns (c : Thread nD τ) a15 fullShare xi12
      ∗ (∃ d, owns (c : Thread nD τ) a16 fullShare d)
      ∗ owns (c : Thread nD τ) a17 fullShare xi14
      ∗ owns (c : Thread nD τ) a18 fullShare s0
      ∗ owns (c : Thread nD τ) a19 fullShare s1
      ∗ owns (c : Thread nD τ) a20 fullShare s2
      ∗ owns (c : Thread nD τ) a21 fullShare s3
      ∗ owns (c : Thread nD τ) a22 fullShare s4
      ∗ owns (c : Thread nD τ) a23 fullShare s5
      ∗ tbPt0 c tbM0_0 xt
      ∗ (iprop(owns (c : Thread nD τ) a3 fullShare x0
        ∗ owns (c : Thread nD τ) a4 fullShare x1
        ∗ owns (c : Thread nD τ) a5 fullShare x2
        ∗ owns (c : Thread nD τ) a6 fullShare x3
        ∗ owns (c : Thread nD τ) a7 fullShare x4
        ∗ owns (c : Thread nD τ) a8 fullShare x5
        ∗ owns (c : Thread nD τ) a9 fullShare x6
        ∗ owns (c : Thread nD τ) a10 fullShare x7
        ∗ owns (c : Thread nD τ) a11 fullShare (oW (BitVec.ofNat 32 ↑(i 1)) (k0_pay8 (stepw i xt)) x2 s0 s1 s2 x1 x3 x5 x0)
        ∗ owns (c : Thread nD τ) a12 fullShare (oD (BitVec.ofNat 32 ↑(i 1)) (k0_pay8 (stepw i xt)) x2 s0 s1 s2 x1 x3 x5)
        ∗ owns (c : Thread nD τ) a13 fullShare xi10
        ∗ owns (c : Thread nD τ) a14 fullShare (oM (BitVec.ofNat 32 ↑(i 1)) s0 s1 x1 x3)
        ∗ owns (c : Thread nD τ) a15 fullShare xi12
        ∗ owns (c : Thread nD τ) a16 fullShare (oV (BitVec.ofNat 32 ↑(i 1)) s0 s2 x1 x5)
        ∗ owns (c : Thread nD τ) a17 fullShare xi14
        ∗ owns (c : Thread nD τ) a18 fullShare (s0)
        ∗ owns (c : Thread nD τ) a19 fullShare (s1)
        ∗ owns (c : Thread nD τ) a20 fullShare (s2)
        ∗ owns (c : Thread nD τ) a21 fullShare ((oMa (BitVec.ofNat 32 ↑(i 1)) s0 s1 x1 x3 s3))
        ∗ owns (c : Thread nD τ) a22 fullShare ((oVa (BitVec.ofNat 32 ↑(i 1)) s0 s2 x1 x5 s4))
        ∗ owns (c : Thread nD τ) a23 fullShare ((k0_pay9 s5 x1 x1))
        ∗ tbPt0 c tbM0_0 xt) -∗ K ⟨⟩))
    ⊢ wp frame (wpE (defs₀ (F := F)) Variants.none c none) E (cc0_soap_step i tbM0_0 htbM0_0 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨H0, H1, H2, H3, H4, H5, H6, H7, H8, H9, H10, H11, H12, H13, H14, HS0, HS1, HS2, HS3, HS4, HS5, HT0, Hk⟩
  iapply ((kernelRun0_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.property xi10 xi12 xi14 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, H10, H11, H12, H13, H14, HS0, HS1, HS2, HS3, HS4, HS5, HT0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_of c a11 _ _ (v11_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H8
  isplitl [H9]; · iapply (owns_of c a12 _ _ (v12_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H9
  isplitl [H10]; · iexact H10
  isplitl [H11]; · iapply (owns_of c a14 _ _ (v14_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H11
  isplitl [H12]; · iexact H12
  isplitl [H13]; · iapply (owns_of c a16 _ _ (v16_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H13
  isplitl [H14]; · iexact H14
  isplitl [HS0]; · iexact HS0
  isplitl [HS1]; · iexact HS1
  isplitl [HS2]; · iexact HS2
  isplitl [HS3]; · iapply (owns_of c a21 _ _ (v21_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS3
  isplitl [HS4]; · iapply (owns_of c a22 _ _ (v22_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS4
  isplitl [HS5]; · iapply (owns_of c a23 _ _ (v23_B c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS5
  iexact HT0

end Cert.KernelIdeal.Gen

end
-- ==== Proof.PI.RunC.lean ====
/- The whole-body run of the kernel in case C, by symbolic execution of the printed skeleton, on scratch buffers held at arbitrary known contents. -/
module

public import proofs.«01_k».proof.Proof.PI.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body leaves in each buffer in case C, as the pieces written (last first), with the proof that it runs from the inputs at their contents and the scratch at `xs·` to those pieces. -/
noncomputable def kernelRun0_C (c : Dev nD) (i : grid0.Coords) (arg3 : Memref sig .tc .vmem S1x128x1024 .f32) (harg3 : arg3.IsWhole) (arg4 : Memref sig .tc .vmem S1x128x1024 .bf16) (harg4 : arg4.IsWhole) (arg5 : Memref sig .tc .vmem S1x128x128 .bf16) (harg5 : arg5.IsWhole) (arg6 : Memref sig .tc .vmem S1x128x1024 .i8) (harg6 : arg6.IsWhole) (arg7 : Memref sig .tc .vmem S1x128x20 .f32) (harg7 : arg7.IsWhole) (arg8 : Memref sig .tc .vmem S1x128x1024 .i8) (harg8 : arg8.IsWhole) (arg9 : Memref sig .tc .vmem S1x128x20 .f32) (harg9 : arg9.IsWhole) (arg10 : Memref sig .tc .vmem S1x128x128 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x128 .f32) (harg13 : arg13.IsWhole) (arg14 : Memref sig .tc .vmem S1x128x1024 .i8) (harg14 : arg14.IsWhole) (arg15 : Memref sig .tc .vmem S1x128x20 .f32) (harg15 : arg15.IsWhole) (arg16 : Memref sig .tc .vmem S1x128x1024 .i8) (harg16 : arg16.IsWhole) (arg17 : Memref sig .tc .vmem S1x128x20 .f32) (harg17 : arg17.IsWhole) (arg18 : Memref sig .tc .vmem S128x128 .bf16) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (hc0 : ¬cond0_0 i) (hc1 : cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt0 : TbBuf0 (F := F) c tbM0_0) (xs0 : Vec F S128x128 .bf16) (xs1 : Vec F S128x128 .f32) (xs2 : Vec F S128x128 .f32) (xs3 : Vec F S128x128 .f32) (xs4 : Vec F S128x128 .f32) (xs5 : Vec F S128x128 .f32) :
    Σ' (L8 : List (View.Piece (Elt F) S1x128x1024 .f32)), Σ' (L9 : List (View.Piece (Elt F) S1x128x1024 .f32)), Σ' (L10 : List (View.Piece (Elt F) S1x128x128 .f32)), Σ' (L11 : List (View.Piece (Elt F) S1x128x1024 .i8)), Σ' (L12 : List (View.Piece (Elt F) S1x128x20 .f32)), Σ' (L13 : List (View.Piece (Elt F) S1x128x1024 .i8)), Σ' (L14 : List (View.Piece (Elt F) S1x128x20 .f32)), Σ' (LS0 : List (View.Piece (Elt F) S128x128 .bf16)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), { LS5 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4 ∗ owns (c : Thread nD τ) arg23 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ owns (c : Thread nD τ) arg18 fullShare xs0 ∗ owns (c : Thread nD τ) arg19 fullShare xs1 ∗ owns (c : Thread nD τ) arg20 fullShare xs2 ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5) ∗ tbPt0 c tbM0_0 xt0) -∗ K ⟨⟩))
          ⊢ wp frame (wpE (defs₀ (F := F)) Variants.none c none) E (cc0_soap_step i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, [], [], [], ?_, ?_, ?_, fun E K => ?run⟩
  case run =>
    simp only [cc0_soap_step_eq_skeleton]; unfold cc0_soap_step_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg18.eq_unread hfs0; obtain rfl := harg19.eq_unread hfs1; obtain rfl := harg20.eq_unread hfs2; obtain rfl := harg21.eq_unread hfs3; obtain rfl := harg22.eq_unread hfs4; obtain rfl := harg23.eq_unread hfs5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg18.read_unread _
      iexact HS0
    isplitl [HS1]
    · iexists _; isplitr; · ipureintro; exact harg19.read_unread _
      iexact HS1
    isplitl [HS2]
    · iexists _; isplitr; · ipureintro; exact harg20.read_unread _
      iexact HS2
    isplitl [HS3]; · iexists _; iexact HS3
    isplitl [HS4]; · iexists _; iexact HS4
    isplitl [HS5]; · iexists _; iexact HS5
    iexact HT0

end Cert.KernelIdeal.Gen

end
-- ==== Proof.V.PointC.lean ====
/- What the body leaves in case C, as values: each buffer the run stores to reads as the block's functions of the
   inputs and of the scratch the point began with. -/
module

public import proofs.«01_k».proof.Proof.PI.RunC
public import proofs.«01_k».proof.Proof.V.Block

@[expose] public section

set_option maxRecDepth 16384

noncomputable section

namespace Cert.KernelIdeal.Gen

open Idealize.ShloMosaic Idealize.ShloMosaic.TcCoe Idealize.ShloMosaic.Tactic
open Cert.KernelIdeal.Tile

variable {F : FTy → Type} [FloatOps F] [Named F]

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : ¬cond0_0 i) (c1 : cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

theorem v11_C (f) :
    a11.view.read (Elt F) (a11.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).1) = oW (BitVec.ofNat 32 ↑(i 1)) (k0_pay8 (stepw i xt)) x2 s0 s1 s2 x1 x3 x5 x0 := by
  unfold kernelRun0_C; dsimp only; sl_unfold_words
  simp only [View.readAt_eq_ld, Memref.IsWhole.read_unread, ld2, ld3, ld20, ld1024, rc2, rc20, read_ov']
  exact read_stack a11.view f (fun t => wT (nt (BitVec.ofNat 32 ↑(i 1)) t) (k0_pay8 (stepw i xt)) x2 s0 s1 s2 (sl t x1) (sl t x3) (sl t x5) (sl t x0)) _ _ _ _

theorem v12_C (f) :
    a12.view.read (Elt F) (a12.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.1) = oD (BitVec.ofNat 32 ↑(i 1)) (k0_pay8 (stepw i xt)) x2 s0 s1 s2 x1 x3 x5 := by
  unfold kernelRun0_C; dsimp only; sl_unfold_words
  simp only [View.readAt_eq_ld, Memref.IsWhole.read_unread, ld2, ld3, ld20, ld1024, rc2, rc20, read_ov']
  exact read_stack a12.view f (fun t => dT (nt (BitVec.ofNat 32 ↑(i 1)) t) (k0_pay8 (stepw i xt)) x2 s0 s1 s2 (sl t x1) (sl t x3) (sl t x5)) _ _ _ _

theorem v14_C (f) :
    a14.view.read (Elt F) (a14.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.1) = oM (BitVec.ofNat 32 ↑(i 1)) s0 s1 x1 x3 := by
  unfold kernelRun0_C; dsimp only; sl_unfold_words
  simp only [View.readAt_eq_ld, Memref.IsWhole.read_unread, ld2, ld3, ld20, ld1024, rc2, rc20, read_ov']
  exact read_stack a14.view f (fun t => mcT (nt (BitVec.ofNat 32 ↑(i 1)) t) s0 s1 (sl t x1) (sl t x3)) _ _ _ _

theorem v16_C (f) :
    a16.view.read (Elt F) (a16.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.1) = oV (BitVec.ofNat 32 ↑(i 1)) s0 s2 x1 x5 := by
  unfold kernelRun0_C; dsimp only; sl_unfold_words
  simp only [View.readAt_eq_ld, Memref.IsWhole.read_unread, ld2, ld3, ld20, ld1024, rc2, rc20, read_ov']
  exact read_stack a16.view f (fun t => vcT (nt (BitVec.ofNat 32 ↑(i 1)) t) s0 s2 (sl t x1) (sl t x5)) _ _ _ _

theorem v21_C (f) :
    a21.view.read (Elt F) (a21.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.1) = (oMa (BitVec.ofNat 32 ↑(i 1)) s0 s1 x1 x3 s3) := by
  unfold kernelRun0_C; dsimp only; sl_unfold_words
  simp only [View.readAt_eq_ld, Memref.IsWhole.read_unread, ld2, ld3, ld20, ld1024, rc2, rc20, read_ov']
  exact read_whole2 a21.view f _ _ _

theorem v22_C (f) :
    a22.view.read (Elt F) (a22.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.1) = (oVa (BitVec.ofNat 32 ↑(i 1)) s0 s2 x1 x5 s4) := by
  unfold kernelRun0_C; dsimp only; sl_unfold_words
  simp only [View.readAt_eq_ld, Memref.IsWhole.read_unread, ld2, ld3, ld20, ld1024, rc2, rc20, read_ov']
  exact read_whole2 a22.view f _ _ _

theorem v23_C (f) :
    a23.view.read (Elt F) (a23.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.1) = (k0_pay9 s5 x1 x1) := by
  unfold kernelRun0_C; dsimp only; sl_unfold_words
  simp only [View.readAt_eq_ld, Memref.IsWhole.read_unread, ld2, ld3, ld20, ld1024, rc2, rc20, read_ov']
  exact read_whole2 a23.view f _ _ _

theorem v13_C (f) :
    a13.view.read (Elt F) (a13.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.1) = k0_pay1 x7 (k0_pay9 s5 x1 x1) := by
  unfold kernelRun0_C; dsimp only; sl_unfold_words
  simp only [View.readAt_eq_ld, Memref.IsWhole.read_unread, ld2, ld3, ld20, ld1024, rc2, rc20, read_ov']
  exact read_whole3 a13.view f _ _ _

theorem v15_C (f) :
    a15.view.read (Elt F) (a15.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.1) = k0_pay2 (View.ld (oMa (BitVec.ofNat 32 ↑(i 1)) s0 s1 x1 x3 s3) (Rect.unit (s := S128x128) ![0, 0] S128x20.size inb_S128x128_S128x20_0_0)) := by
  unfold kernelRun0_C; dsimp only; sl_unfold_words
  simp only [View.readAt_eq_ld, Memref.IsWhole.read_unread, ld2, ld3, ld20, ld1024, rc2, rc20, read_ov']
  exact read_whole20 a15.view f _ _ _

theorem v17_C (f) :
    a17.view.read (Elt F) (a17.view.writes (Elt F) f (kernelRun0_C (F := F) c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.1) = k0_pay3 (View.ld (oVa (BitVec.ofNat 32 ↑(i 1)) s0 s2 x1 x5 s4) (Rect.unit (s := S128x128) ![0, 0] S128x20.size inb_S128x128_S128x20_0_0)) := by
  unfold kernelRun0_C; dsimp only; sl_unfold_words
  simp only [View.readAt_eq_ld, Memref.IsWhole.read_unread, ld2, ld3, ld20, ld1024, rc2, rc20, read_ov']
  exact read_whole20 a17.view f _ _ _

end Cert.KernelIdeal.Gen

end
-- ==== Proof.V.StepC.lean ====
/- The body in case C, its result given by values: what each buffer holds after it. -/
module

public import proofs.«01_k».proof.Proof.V.PointC
public import proofs.«01_k».proof.Proof.V.Owns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Tile

variable {F : FTy → Type} [FloatOps F] [Named F]

local notation "𝕄" => MT nD τ sig Unit (Elt F) ℕ (UR sig nD τ) ℕ

variable (c : Dev nD) (i : grid0.Coords) (a3 : Memref sig .tc .vmem S1x128x1024 .f32) (h3 : a3.IsWhole) (a4 : Memref sig .tc .vmem S1x128x1024 .bf16) (h4 : a4.IsWhole) (a5 : Memref sig .tc .vmem S1x128x128 .bf16) (h5 : a5.IsWhole) (a6 : Memref sig .tc .vmem S1x128x1024 .i8) (h6 : a6.IsWhole) (a7 : Memref sig .tc .vmem S1x128x20 .f32) (h7 : a7.IsWhole) (a8 : Memref sig .tc .vmem S1x128x1024 .i8) (h8 : a8.IsWhole) (a9 : Memref sig .tc .vmem S1x128x20 .f32) (h9 : a9.IsWhole) (a10 : Memref sig .tc .vmem S1x128x128 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x128 .f32) (h13 : a13.IsWhole) (a14 : Memref sig .tc .vmem S1x128x1024 .i8) (h14 : a14.IsWhole) (a15 : Memref sig .tc .vmem S1x128x20 .f32) (h15 : a15.IsWhole) (a16 : Memref sig .tc .vmem S1x128x1024 .i8) (h16 : a16.IsWhole) (a17 : Memref sig .tc .vmem S1x128x20 .f32) (h17 : a17.IsWhole) (a18 : Memref sig .tc .vmem S128x128 .bf16) (h18 : a18.IsWhole) (a19 : Memref sig .tc .vmem S128x128 .f32) (h19 : a19.IsWhole) (a20 : Memref sig .tc .vmem S128x128 .f32) (h20 : a20.IsWhole) (a21 : Memref sig .tc .vmem S128x128 .f32) (h21 : a21.IsWhole) (a22 : Memref sig .tc .vmem S128x128 .f32) (h22 : a22.IsWhole) (a23 : Memref sig .tc .vmem S128x128 .f32) (h23 : a23.IsWhole) (c0 : ¬cond0_0 i) (c1 : cond0_1 i)
    (x0 : Vec F S1x128x1024 .f32) (x1 : Vec F S1x128x1024 .bf16) (x2 : Vec F S1x128x128 .bf16) (x3 : Vec F S1x128x1024 .i8) (x4 : Vec F S1x128x20 .f32) (x5 : Vec F S1x128x1024 .i8) (x6 : Vec F S1x128x20 .f32) (x7 : Vec F S1x128x128 .f32) (xt : TbBuf0 (F := F) c tbM0_0) (s0 : Vec F S128x128 .bf16) (s1 : Vec F S128x128 .f32) (s2 : Vec F S128x128 .f32) (s3 : Vec F S128x128 .f32) (s4 : Vec F S128x128 .f32) (s5 : Vec F S128x128 .f32)

include c0 c1 in
set_option maxHeartbeats 2000000 in
/-- The body in case C. -/
theorem step_C (E : Set ℕ) (K : PUnit → sProp 𝕄) :
    iprop(owns (c : Thread nD τ) a3 fullShare x0
      ∗ owns (c : Thread nD τ) a4 fullShare x1
      ∗ owns (c : Thread nD τ) a5 fullShare x2
      ∗ owns (c : Thread nD τ) a6 fullShare x3
      ∗ owns (c : Thread nD τ) a7 fullShare x4
      ∗ owns (c : Thread nD τ) a8 fullShare x5
      ∗ owns (c : Thread nD τ) a9 fullShare x6
      ∗ owns (c : Thread nD τ) a10 fullShare x7
      ∗ (∃ d, owns (c : Thread nD τ) a11 fullShare d)
      ∗ (∃ d, owns (c : Thread nD τ) a12 fullShare d)
      ∗ (∃ d, owns (c : Thread nD τ) a13 fullShare d)
      ∗ (∃ d, owns (c : Thread nD τ) a14 fullShare d)
      ∗ (∃ d, owns (c : Thread nD τ) a15 fullShare d)
      ∗ (∃ d, owns (c : Thread nD τ) a16 fullShare d)
      ∗ (∃ d, owns (c : Thread nD τ) a17 fullShare d)
      ∗ owns (c : Thread nD τ) a18 fullShare s0
      ∗ owns (c : Thread nD τ) a19 fullShare s1
      ∗ owns (c : Thread nD τ) a20 fullShare s2
      ∗ owns (c : Thread nD τ) a21 fullShare s3
      ∗ owns (c : Thread nD τ) a22 fullShare s4
      ∗ owns (c : Thread nD τ) a23 fullShare s5
      ∗ tbPt0 c tbM0_0 xt
      ∗ (iprop(owns (c : Thread nD τ) a3 fullShare x0
        ∗ owns (c : Thread nD τ) a4 fullShare x1
        ∗ owns (c : Thread nD τ) a5 fullShare x2
        ∗ owns (c : Thread nD τ) a6 fullShare x3
        ∗ owns (c : Thread nD τ) a7 fullShare x4
        ∗ owns (c : Thread nD τ) a8 fullShare x5
        ∗ owns (c : Thread nD τ) a9 fullShare x6
        ∗ owns (c : Thread nD τ) a10 fullShare x7
        ∗ owns (c : Thread nD τ) a11 fullShare (oW (BitVec.ofNat 32 ↑(i 1)) (k0_pay8 (stepw i xt)) x2 s0 s1 s2 x1 x3 x5 x0)
        ∗ owns (c : Thread nD τ) a12 fullShare (oD (BitVec.ofNat 32 ↑(i 1)) (k0_pay8 (stepw i xt)) x2 s0 s1 s2 x1 x3 x5)
        ∗ owns (c : Thread nD τ) a13 fullShare (k0_pay1 x7 (k0_pay9 s5 x1 x1))
        ∗ owns (c : Thread nD τ) a14 fullShare (oM (BitVec.ofNat 32 ↑(i 1)) s0 s1 x1 x3)
        ∗ owns (c : Thread nD τ) a15 fullShare (k0_pay2 (View.ld (oMa (BitVec.ofNat 32 ↑(i 1)) s0 s1 x1 x3 s3) (Rect.unit (s := S128x128) ![0, 0] S128x20.size inb_S128x128_S128x20_0_0)))
        ∗ owns (c : Thread nD τ) a16 fullShare (oV (BitVec.ofNat 32 ↑(i 1)) s0 s2 x1 x5)
        ∗ owns (c : Thread nD τ) a17 fullShare (k0_pay3 (View.ld (oVa (BitVec.ofNat 32 ↑(i 1)) s0 s2 x1 x5 s4) (Rect.unit (s := S128x128) ![0, 0] S128x20.size inb_S128x128_S128x20_0_0)))
        ∗ owns (c : Thread nD τ) a18 fullShare (s0)
        ∗ owns (c : Thread nD τ) a19 fullShare (s1)
        ∗ owns (c : Thread nD τ) a20 fullShare (s2)
        ∗ owns (c : Thread nD τ) a21 fullShare ((oMa (BitVec.ofNat 32 ↑(i 1)) s0 s1 x1 x3 s3))
        ∗ owns (c : Thread nD τ) a22 fullShare ((oVa (BitVec.ofNat 32 ↑(i 1)) s0 s2 x1 x5 s4))
        ∗ owns (c : Thread nD τ) a23 fullShare ((k0_pay9 s5 x1 x1))
        ∗ tbPt0 c tbM0_0 xt) -∗ K ⟨⟩))
    ⊢ wp frame (wpE (defs₀ (F := F)) Variants.none c none) E (cc0_soap_step i tbM0_0 htbM0_0 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨H0, H1, H2, H3, H4, H5, H6, H7, H8, H9, H10, H11, H12, H13, H14, HS0, HS1, HS2, HS3, HS4, HS5, HT0, Hk⟩
  iapply ((kernelRun0_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5).2.2.2.2.2.2.2.2.2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, H10, H11, H12, H13, H14, HS0, HS1, HS2, HS3, HS4, HS5, HT0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_of c a11 _ _ (v11_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H8
  isplitl [H9]; · iapply (owns_of c a12 _ _ (v12_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H9
  isplitl [H10]; · iapply (owns_of c a13 _ _ (v13_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H10
  isplitl [H11]; · iapply (owns_of c a14 _ _ (v14_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H11
  isplitl [H12]; · iapply (owns_of c a15 _ _ (v15_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H12
  isplitl [H13]; · iapply (owns_of c a16 _ _ (v16_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H13
  isplitl [H14]; · iapply (owns_of c a17 _ _ (v17_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ H14
  isplitl [HS0]; · iexact HS0
  isplitl [HS1]; · iexact HS1
  isplitl [HS2]; · iexact HS2
  isplitl [HS3]; · iapply (owns_of c a21 _ _ (v21_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS3
  isplitl [HS4]; · iapply (owns_of c a22 _ _ (v22_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS4
  isplitl [HS5]; · iapply (owns_of c a23 _ _ (v23_C c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 c0 c1 x0 x1 x2 x3 x4 x5 x6 x7 xt s0 s1 s2 s3 s4 s5)) $$ HS5
  iexact HT0

end Cert.KernelIdeal.Gen

end
-- ==== Proof.V.Frame.lean ====
/- The pallas_call's run with its results given by values: each result block is what its grid point stores, the scratch
   between points is the state of `V/State.lean`. -/
module

public import proofs.«01_k».proof.Proof.V.State
public import proofs.«01_k».proof.Proof.V.StepA
public import proofs.«01_k».proof.Proof.V.StepB
public import proofs.«01_k».proof.Proof.V.StepC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Tile

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` stores in its block of the weights, -/
def F8 (hO : Ok m) (c : Dev nD) (t : Fin (cfgM m hO).N) : Vec F S1x128x1024 .f32 :=
  oW (BitVec.ofNat 32 (t.val % 5)) (szB m hO c t) (B2 m hO c t) (qtB m hO c (t.val / 5)) (msB m hO c (t.val / 5)) (vsB m hO c (t.val / 5)) (B1 m hO c t) (B3 m hO c t) (B5 m hO c t) (B0 m hO c t)
/-- of the updates, -/
def F9 (hO : Ok m) (c : Dev nD) (t : Fin (cfgM m hO).N) : Vec F S1x128x1024 .f32 :=
  oD (BitVec.ofNat 32 (t.val % 5)) (szB m hO c t) (B2 m hO c t) (qtB m hO c (t.val / 5)) (msB m hO c (t.val / 5)) (vsB m hO c (t.val / 5)) (B1 m hO c t) (B3 m hO c t) (B5 m hO c t)
/-- of the left factor, -/
def F10 (hO : Ok m) (c : Dev nD) (t : Fin (cfgM m hO).N) : Vec F S1x128x128 .f32 := k0_pay1 (B7 m hO c t) (ggB m hO c (t.val / 5) 5)
/-- of the first moment's codes, -/
def F11 (hO : Ok m) (c : Dev nD) (t : Fin (cfgM m hO).N) : Vec F S1x128x1024 .i8 :=
  oM (BitVec.ofNat 32 (t.val % 5)) (qtB m hO c (t.val / 5)) (msB m hO c (t.val / 5)) (B1 m hO c t) (B3 m hO c t)
/-- and scales, -/
def F12 (hO : Ok m) (c : Dev nD) (t : Fin (cfgM m hO).N) : Vec F S1x128x20 .f32 := k0_pay2 (mxM m hO c (t.val / 5))
/-- of the second moment's codes, -/
def F13 (hO : Ok m) (c : Dev nD) (t : Fin (cfgM m hO).N) : Vec F S1x128x1024 .i8 :=
  oV (BitVec.ofNat 32 (t.val % 5)) (qtB m hO c (t.val / 5)) (vsB m hO c (t.val / 5)) (B1 m hO c t) (B5 m hO c t)
/-- and scales. -/
def F14 (hO : Ok m) (c : Dev nD) (t : Fin (cfgM m hO).N) : Vec F S1x128x20 .f32 := k0_pay3 (mxV m hO c (t.val / 5))

/-- Before point `n` the scratch is in the state of the batch entry's points so far; anything at an entry's start. -/
def Inv (hO : Ok m) (c : Dev nD) (n : ℕ) (x0 : Vec F S128x128 .bf16) (x1 x2 x3 x4 x5 : Vec F S128x128 .f32) : Prop :=
  n % 5 ≠ 0 → St m hO c (n / 5) (n % 5) x0 x1 x2 x3 x4 x5

/-- The invariant between points. -/
def PhiV (hO : Ok m) (c : Dev nD) (n : ℕ) : sProp 𝕄 :=
  iprop(iprop((∃ x0 x1 x2 x3 x4 x5, iprop(owns (c : Thread nD τ) scM0_0 fullShare x0 ∗ owns (c : Thread nD τ) scM0_1 fullShare x1 ∗ owns (c : Thread nD τ) scM0_2 fullShare x2 ∗ owns (c : Thread nD τ) scM0_3 fullShare x3 ∗ owns (c : Thread nD τ) scM0_4 fullShare x4 ∗ owns (c : Thread nD τ) scM0_5 fullShare x5 ∗ ⌜Inv m hO c n x0 x1 x2 x3 x4 x5⌝)) ∗ (∃ r, prngReg c r)) ∗ Pipeline.ΦT pre0 (tbl m) c)

/-- The proof data: the arrays as the region finds them, each input's buffer at its block, each result's at what the
    point stores. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => F8 m hO c t
    | ⟨9, _⟩ => F9 m hO c t
    | ⟨10, _⟩ => F10 m hO c t
    | ⟨11, _⟩ => F11 m hO c t
    | ⟨12, _⟩ => F12 m hO c t
    | ⟨13, _⟩ => F13 m hO c t
    | ⟨14, _⟩ => F14 m hO c t
  Φ t := PhiV m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

theorem after0_8 (hO : Ok m) (c : Dev nD) (t : Fin (cfgM m hO).N) : (dats m hO 0 c).after 8 t = F8 m hO c t := by dsimp only [dats]; try rfl
theorem after0_9 (hO : Ok m) (c : Dev nD) (t : Fin (cfgM m hO).N) : (dats m hO 0 c).after 9 t = F9 m hO c t := by dsimp only [dats]; try rfl
theorem after0_10 (hO : Ok m) (c : Dev nD) (t : Fin (cfgM m hO).N) : (dats m hO 0 c).after 10 t = F10 m hO c t := by dsimp only [dats]; try rfl
theorem after0_11 (hO : Ok m) (c : Dev nD) (t : Fin (cfgM m hO).N) : (dats m hO 0 c).after 11 t = F11 m hO c t := by dsimp only [dats]; try rfl
theorem after0_12 (hO : Ok m) (c : Dev nD) (t : Fin (cfgM m hO).N) : (dats m hO 0 c).after 12 t = F12 m hO c t := by dsimp only [dats]; try rfl
theorem after0_13 (hO : Ok m) (c : Dev nD) (t : Fin (cfgM m hO).N) : (dats m hO 0 c).after 13 t = F13 m hO c t := by dsimp only [dats]; try rfl
theorem after0_14 (hO : Ok m) (c : Dev nD) (t : Fin (cfgM m hO).N) : (dats m hO 0 c).after 14 t = F14 m hO c t := by dsimp only [dats]; try rfl

theorem coords1 : ∀ t : Fin grid0.N, (grid0.coords t 1).val = t.val % 5 := by decide +kernel

theorem p5_self (hO : Ok m) (t : Fin (cfgM m hO).N) : p5 m hO (t.val / 5) (t.val % 5) = t := by
  have h : t.val < 25 := t.isLt
  apply Fin.ext
  show (5 * (t.val / 5) + t.val % 5) % 25 = t.val
  omega

/-- The four result blocks a point stores, from the scratch in its state. -/
theorem outs (hO : Ok m) (c : Dev nD) (t : Fin (cfgM m hO).N) {x0 : Vec F S128x128 .bf16} {x1 x2 : Vec F S128x128 .f32} (h0 : x0 = qtB m hO c (t.val / 5)) (h1 : Agree x1 (msB m hO c (t.val / 5))) (h2 : Agree x2 (vsB m hO c (t.val / 5))) :
    oW (BitVec.ofNat 32 (grid0.coords t 1).val) (k0_pay8 (stepw (F := F) (c := c) (grid0.coords t) (tbl m 0))) (B2 m hO c t) x0 x1 x2 (B1 m hO c t) (B3 m hO c t) (B5 m hO c t) (B0 m hO c t) = F8 m hO c t
    ∧ oD (BitVec.ofNat 32 (grid0.coords t 1).val) (k0_pay8 (stepw (F := F) (c := c) (grid0.coords t) (tbl m 0))) (B2 m hO c t) x0 x1 x2 (B1 m hO c t) (B3 m hO c t) (B5 m hO c t) = F9 m hO c t
    ∧ oM (BitVec.ofNat 32 (grid0.coords t 1).val) x0 x1 (B1 m hO c t) (B3 m hO c t) = F11 m hO c t
    ∧ oV (BitVec.ofNat 32 (grid0.coords t 1).val) x0 x2 (B1 m hO c t) (B5 m hO c t) = F13 m hO c t := by
  have hj : t.val % 5 < 5 := Nat.mod_lt _ (by norm_num)
  rw [coords1 t, h0]
  unfold F8 F9 F11 F13 szB
  exact ⟨h1.oW h2 ⟨t.val % 5, hj⟩ _ _ _ _ _ _ _, h1.oD h2 ⟨t.val % 5, hj⟩ _ _ _ _ _ _, h1.oM ⟨t.val % 5, hj⟩ _ _ _, h2.oV ⟨t.val % 5, hj⟩ _ _ _⟩

/-- The scratch after point `t`. -/
theorem next (hO : Ok m) (c : Dev nD) (t : Fin (cfgM m hO).N) {x0 : Vec F S128x128 .bf16} {x1 x2 x3 x4 x5 : Vec F S128x128 .f32} (h : St m hO c (t.val / 5) (t.val % 5) x0 x1 x2 x3 x4 x5) :
    St m hO c (t.val / 5) (t.val % 5 + 1) x0 x1 x2 (oMa (BitVec.ofNat 32 (grid0.coords t 1).val) x0 x1 (B1 m hO c t) (B3 m hO c t) x3)
      (oVa (BitVec.ofNat 32 (grid0.coords t 1).val) x0 x2 (B1 m hO c t) (B5 m hO c t) x4) (k0_pay9 x5 (B1 m hO c t) (B1 m hO c t)) := by
  have e := h.succ (Nat.mod_lt _ (by norm_num))
  rw [p5_self] at e
  rw [coords1 t]
  exact e

theorem inv_next (hO : Ok m) (c : Dev nD) (t : Fin (cfgM m hO).N) {x0 : Vec F S128x128 .bf16} {x1 x2 x3 x4 x5 : Vec F S128x128 .f32} (h : St m hO c (t.val / 5) (t.val % 5 + 1) x0 x1 x2 x3 x4 x5) :
    Inv m hO c (t.val + 1) x0 x1 x2 x3 x4 x5 := fun hn => by
  rw [show (t.val + 1) / 5 = t.val / 5 by omega, show (t.val + 1) % 5 = t.val % 5 + 1 by omega]
  exact h

/-- The scratch a batch entry's first point begins with. -/
theorem first (hO : Ok m) (c : Dev nD) (t : Fin (cfgM m hO).N) (h : t.val % 5 = 0) (x1 x2 x3 x4 : Vec F S128x128 .f32) :
    St m hO c (t.val / 5) (t.val % 5) (k0_pay4 (B2 m hO c t)) (ov x1 (k0_pay5 (B4 m hO c t))) (ov x2 (k0_pay6 (B6 m hO c t))) x3 x4 k0_pay7 := by
  have e := St.zero (m := m) (hO := hO) (c := c) (t.val / 5) x1 x2 x3 x4
  have p : p5 m hO (t.val / 5) 0 = t := by have := p5_self m hO t; rwa [h] at this
  rw [p] at e
  rw [h]
  exact e

theorem owns_eq (c : Dev nD) {sp : Space} {s : Shape} {e : EltTy} (M : Memref sig .tc sp s e) {X Y : Vec F s e} (h : X = Y) :
    (owns (c : Thread nD τ) M fullShare X : sProp 𝕄) ⊢ owns (c : Thread nD τ) M fullShare Y := by rw [h]

/-- What the body is called with at point `t`, -/
def bodyPre (hO : Ok m) (c : Dev nD) (t : Fin (cfgM m hO).N) : sProp 𝕄 :=
  iprop((dats m hO 0 c).Φ t.castSucc
    ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))

/-- and what it returns. -/
def bodyPost (hO : Ok m) (c : Dev nD) (t : Fin (cfgM m hO).N) : sProp 𝕄 :=
  iprop((dats m hO 0 c).Φ t.succ
    ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t)

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiV m hO c (t.val + 1) from rfl, show (dats m hO 0 c).Φ t.castSucc = PhiV m hO c t.val from rfl]
  unfold PhiV
  rw [PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 11 t = owns (c : Thread nD τ) (ms0_11 m hO t) fullShare ((dats m hO 0 c).after 11 t) from by
    unfold Dat.leavesExact; rw [liveAt0_11 m hO t]; try rfl, after0_11]
  rw [show (dats m hO 0 c).leavesExact 13 t = owns (c : Thread nD τ) (ms0_13 m hO t) fullShare ((dats m hO 0 c).after 13 t) from by
    unfold Dat.leavesExact; rw [liveAt0_13 m hO t]; try rfl, after0_13]
  iintro ⟨⟨⟨⟨%x0, %x1, %x2, %x3, %x4, %x5, HS0, HS1, HS2, HS3, HS4, HS5, %hI⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h0 : t.val % 5 = 0
  · have h1 : ¬ t.val % 5 = 4 := by omega
    have hc0 : cond0_0 (grid0.coords t) := (hcond0_0 t).mpr h0
    have hc1 : ¬ cond0_1 (grid0.coords t) := fun h => h1 ((hcond0_1 t).mp h)
    have hS := first m hO c t h0 x1 x2 x3 x4
    have hN := next m hO c t hS
    have hW := outs m hO c t hS.q hS.ms hS.vs
    rw [Dat.leavesExact_idle (dats m hO 0 c) 10 t (idleAt0_10_A m hO t hc0 hc1) (noFlush0_10_A m hO t hc0 hc1)]
    rw [Dat.leavesExact_idle (dats m hO 0 c) 12 t (idleAt0_12_A m hO t hc0 hc1) (noFlush0_12_A m hO t hc0 hc1)]
    rw [Dat.leavesExact_idle (dats m hO 0 c) 14 t (idleAt0_14_A m hO t hc0 hc1) (noFlush0_14_A m hO t hc0 hc1)]
    iapply (step_A c (grid0.coords t) _ _ _ _ _ _ _ _ _ _ _ _ _ _ _ _ _ _ _ _ _ _ _ _ _ _ _ _ _ _ _ _ _ _ _ _ _ _ _ _ _ _ hc0 hc1 (iblk m hO c 0 t) (iblk m hO c 1 t) (iblk m hO c 2 t) (iblk m hO c 3 t) (iblk m hO c 4 t) (iblk m hO c 5 t) (iblk m hO c 6 t) (iblk m hO c 7 t) (tbl m 0) x0 x1 x2 x3 x4 x5 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [H12]; · iexact H12
    isplitl [H13]; · iexists _; iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, H8, H9, H10, H11, H12, H13, H14, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · iexists _, _, _, _, _, _
          isplitl [HS0]; · iexact HS0
          isplitl [HS1]; · iexact HS1
          isplitl [HS2]; · iexact HS2
          isplitl [HS3]; · iexact HS3
          isplitl [HS4]; · iexact HS4
          isplitl [HS5]; · iexact HS5
          ipureintro; exact inv_next m hO c t hN
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (owns_eq c _ hW.1) $$ H8
    isplitl [H9]; · iapply (owns_eq c _ hW.2.1) $$ H9
    isplitl [H10]; · iexists _; iexact H10
    isplitl [H11]; · iapply (owns_eq c _ hW.2.2.1) $$ H11
    isplitl [H12]; · iexists _; iexact H12
    isplitl [H13]; · iapply (owns_eq c _ hW.2.2.2) $$ H13
    iexists _; iexact H14
  · by_cases h1 : t.val % 5 = 4
    · skip
      have hc0 : ¬ cond0_0 (grid0.coords t) := fun h => h0 ((hcond0_0 t).mp h)
      have hc1 : cond0_1 (grid0.coords t) := (hcond0_1 t).mpr h1
      have hS := hI h0
      have hN := next m hO c t hS
      have hW := outs m hO c t hS.q hS.ms hS.vs
      rw [show (dats m hO 0 c).leavesExact 10 t = owns (c : Thread nD τ) (ms0_10 m hO t) fullShare ((dats m hO 0 c).after 10 t) from by
        unfold Dat.leavesExact; rw [liveAt0_10_C m hO t hc0 hc1]; try rfl, after0_10]
      rw [show (dats m hO 0 c).leavesExact 12 t = owns (c : Thread nD τ) (ms0_12 m hO t) fullShare ((dats m hO 0 c).after 12 t) from by
        unfold Dat.leavesExact; rw [liveAt0_12_C m hO t hc0 hc1]; try rfl, after0_12]
      rw [show (dats m hO 0 c).leavesExact 14 t = owns (c : Thread nD τ) (ms0_14 m hO t) fullShare ((dats m hO 0 c).after 14 t) from by
        unfold Dat.leavesExact; rw [liveAt0_14_C m hO t hc0 hc1]; try rfl, after0_14]
      rw [h1] at hN
      iapply (step_C c (grid0.coords t) _ _ _ _ _ _ _ _ _ _ _ _ _ _ _ _ _ _ _ _ _ _ _ _ _ _ _ _ _ _ _ _ _ _ _ _ _ _ _ _ _ _ hc0 hc1 (iblk m hO c 0 t) (iblk m hO c 1 t) (iblk m hO c 2 t) (iblk m hO c 3 t) (iblk m hO c 4 t) (iblk m hO c 5 t) (iblk m hO c 6 t) (iblk m hO c 7 t) (tbl m 0) x0 x1 x2 x3 x4 x5 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, H5, H6, H7, H8, H9, H10, H11, H12, H13, H14, HS0, HS1, HS2, HS3, HS4, HS5, HT0⟩
      isplitl [HS0 HS1 HS2 HS3 HS4 HS5 Hg HT0]
      · isplitl [HS0 HS1 HS2 HS3 HS4 HS5 Hg]
        · isplitl [HS0 HS1 HS2 HS3 HS4 HS5]
          · iexists _, _, _, _, _, _
            isplitl [HS0]; · iexact HS0
            isplitl [HS1]; · iexact HS1
            isplitl [HS2]; · iexact HS2
            isplitl [HS3]; · iexact HS3
            isplitl [HS4]; · iexact HS4
            isplitl [HS5]; · iexact HS5
            ipureintro; exact fun hn => absurd (by omega : (t.val + 1) % 5 = 0) hn
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (owns_eq c _ hW.1) $$ H8
      isplitl [H9]; · iapply (owns_eq c _ hW.2.1) $$ H9
      isplitl [H10]; · iapply (owns_eq c _ (congrArg (k0_pay1 _) hN.gg)) $$ H10
      isplitl [H11]; · iapply (owns_eq c _ hW.2.2.1) $$ H11
      isplitl [H12]; · iapply (owns_eq c _ (congrArg k0_pay2 (hN.ld_ma _))) $$ H12
      isplitl [H13]; · iapply (owns_eq c _ hW.2.2.2) $$ H13
      iapply (owns_eq c _ (congrArg k0_pay3 (hN.ld_va _))) $$ H14
    · skip
      have hc0 : ¬ cond0_0 (grid0.coords t) := fun h => h0 ((hcond0_0 t).mp h)
      have hc1 : ¬ cond0_1 (grid0.coords t) := fun h => h1 ((hcond0_1 t).mp h)
      have hS := hI h0
      have hN := next m hO c t hS
      have hW := outs m hO c t hS.q hS.ms hS.vs
      rw [Dat.leavesExact_idle (dats m hO 0 c) 10 t (idleAt0_10_B m hO t hc0 hc1) (noFlush0_10_B m hO t hc0 hc1)]
      rw [Dat.leavesExact_idle (dats m hO 0 c) 12 t (idleAt0_12_B m hO t hc0 hc1) (noFlush0_12_B m hO t hc0 hc1)]
      rw [Dat.leavesExact_idle (dats m hO 0 c) 14 t (idleAt0_14_B m hO t hc0 hc1) (noFlush0_14_B m hO t hc0 hc1)]
      iapply (step_B c (grid0.coords t) _ _ _ _ _ _ _ _ _ _ _ _ _ _ _ _ _ _ _ _ _ _ _ _ _ _ _ _ _ _ _ _ _ _ _ _ _ _ _ _ _ _ hc0 hc1 (iblk m hO c 0 t) (iblk m hO c 1 t) (iblk m hO c 2 t) (iblk m hO c 3 t) (iblk m hO c 4 t) (iblk m hO c 5 t) (iblk m hO c 6 t) (iblk m hO c 7 t) (tbl m 0) x0 x1 x2 x3 x4 x5 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexists _; iexact H11
      isplitl [H12]; · iexact H12
      isplitl [H13]; · iexists _; iexact H13
      isplitl [H14]; · iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, H5, H6, H7, H8, H9, H10, H11, H12, H13, H14, HS0, HS1, HS2, HS3, HS4, HS5, HT0⟩
      isplitl [HS0 HS1 HS2 HS3 HS4 HS5 Hg HT0]
      · isplitl [HS0 HS1 HS2 HS3 HS4 HS5 Hg]
        · isplitl [HS0 HS1 HS2 HS3 HS4 HS5]
          · iexists _, _, _, _, _, _
            isplitl [HS0]; · iexact HS0
            isplitl [HS1]; · iexact HS1
            isplitl [HS2]; · iexact HS2
            isplitl [HS3]; · iexact HS3
            isplitl [HS4]; · iexact HS4
            isplitl [HS5]; · iexact HS5
            ipureintro; exact inv_next m hO c t hN
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (owns_eq c _ hW.1) $$ H8
      isplitl [H9]; · iapply (owns_eq c _ hW.2.1) $$ H9
      isplitl [H10]; · iexists _; iexact H10
      isplitl [H11]; · iapply (owns_eq c _ hW.2.2.1) $$ H11
      isplitl [H12]; · iexists _; iexact H12
      isplitl [H13]; · iapply (owns_eq c _ hW.2.2.2) $$ H13
      iexists _; iexact H14

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ ((dats m hO 0 c).Φ 0 : sProp 𝕄) := by
  rw [show (dats m hO 0 c).Φ 0 = PhiV m hO c 0 from rfl, PhiA0_eq]
  unfold PhiV
  iintro ⟨⟨⟨⟨%x0, HS0⟩, ⟨%x1, HS1⟩, ⟨%x2, HS2⟩, ⟨%x3, HS3⟩, ⟨%x4, HS4⟩, ⟨%x5, HS5⟩⟩, Hg⟩, HT0⟩
  isplitl [HS0 HS1 HS2 HS3 HS4 HS5 Hg]
  · isplitl [HS0 HS1 HS2 HS3 HS4 HS5]
    · iexists _, _, _, _, _, _
      isplitl [HS0]; · iexact HS0
      isplitl [HS1]; · iexact HS1
      isplitl [HS2]; · iexact HS2
      isplitl [HS3]; · iexact HS3
      isplitl [HS4]; · iexact HS4
      isplitl [HS5]; · iexact HS5
      ipureintro; exact fun hn => absurd rfl hn
    iexact Hg
  iexact HT0

theorem hout (hO : Ok m) (c : Dev nD) : ((dats m hO 0 c).Φ (Fin.last (cfgM m hO).N) : sProp 𝕄) ⊢ Pipeline.ΦA spec0 c := by
  rw [show (dats m hO 0 c).Φ (Fin.last (cfgM m hO).N) = PhiV m hO c (cfgM m hO).N from rfl, PhiA0_eq]
  unfold PhiV
  iintro ⟨⟨⟨%x0, %x1, %x2, %x3, %x4, %x5, HS0, HS1, HS2, HS3, HS4, HS5, %hI⟩, Hg⟩, HT0⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The launch. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: every argument array ends as it was, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ hO (dats m hO) (A_eq m hO) (run_main m ρ hO))
    ((θ_run defs _ _).mono (fun _ h => h.2) (run_main_quiescent m ρ hO))

end Cert.KernelIdeal.Gen

end
-- ==== Proof.V.Blocks.lean ====
/- The blocks the windows read, at an index of the argument arrays. -/
module

public import proofs.«01_k».proof.Proof.V.Frame
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.KernelIdeal Cert.KernelIdeal.Tile

variable {F : FTy → Type} [FloatOps F] [Named F]
variable (m : (ℓ : Loc nD τ sig) → Buf (Elt F) ℓ) (hO : Ok m) (c : Dev nD)

/-- There are 25 points. -/
theorem lt25 (t : Fin (cfgM m hO).N) : t.val < 25 := t.isLt

/-- The batch entry of a point, -/
def bt (t : Fin (cfgM m hO).N) : Fin 5 := ⟨t.val / 5, by have := lt25 m hO t; omega⟩
/-- and the column in the array of its block's column `x`. -/
def cl (t : Fin (cfgM m hO).N) (x : Fin 1024) : Fin 5120 := ⟨t.val % 5 * 1024 + x.val, by omega⟩

/-- Window 0's block index, -/
theorem e0 (t : Fin (cfgM m hO).N) : ((cfgM m hO).win 0).index t = ![t.val / 5, 0, t.val % 5] :=
  (by decide +kernel : ∀ t : Fin grid0.N, cc0_transform_0 (grid0.coords t) = ![t.val / 5, 0, t.val % 5]) t

/-- and where its block lies in the array. -/
theorem emb0 (t : Fin (cfgM m hO).N) (r : Fin 128) (x : Fin 1024) :
    (((cfgM m hO).win 0).blk t).view.emb (ix3 0 r x) = ix3 (bt m hO t) r (cl m hO t x) := by
  funext a
  apply Fin.ext
  fin_cases a <;> (blk_simp [e0 m hO t, bt, cl]; rfl)

/-- Its block at an index. -/
theorem B0_at (t : Fin (cfgM m hO).N) (r : Fin 128) (x : Fin 1024) :
    B0 m hO c t (ix3 0 r x) = (m ((c : Thread nD τ).loc main_arg0)) (ix3 (bt m hO t) r (cl m hO t x)) :=
  congrArg (m ((c : Thread nD τ).loc main_arg0)) (emb0 m hO t r x)

/-- Window 1's block index, -/
theorem e1 (t : Fin (cfgM m hO).N) : ((cfgM m hO).win 1).index t = ![t.val / 5, 0, t.val % 5] :=
  (by decide +kernel : ∀ t : Fin grid0.N, cc0_transform_1 (grid0.coords t) = ![t.val / 5, 0, t.val % 5]) t

/-- and where its block lies in the array. -/
theorem emb1 (t : Fin (cfgM m hO).N) (r : Fin 128) (x : Fin 1024) :
    (((cfgM m hO).win 1).blk t).view.emb (ix3 0 r x) = ix3 (bt m hO t) r (cl m hO t x) := by
  funext a
  apply Fin.ext
  fin_cases a <;> (blk_simp [e1 m hO t, bt, cl]; rfl)

/-- Its block at an index. -/
theorem B1_at (t : Fin (cfgM m hO).N) (r : Fin 128) (x : Fin 1024) :
    B1 m hO c t (ix3 0 r x) = (m ((c : Thread nD τ).loc main_arg1)) (ix3 (bt m hO t) r (cl m hO t x)) :=
  congrArg (m ((c : Thread nD τ).loc main_arg1)) (emb1 m hO t r x)

/-- Window 2's block index, -/
theorem e2 (t : Fin (cfgM m hO).N) : ((cfgM m hO).win 2).index t = ![t.val / 5, 0, 0] :=
  (by decide +kernel : ∀ t : Fin grid0.N, cc0_transform_2 (grid0.coords t) = ![t.val / 5, 0, 0]) t

/-- and where its block lies in the array. -/
theorem emb2 (t : Fin (cfgM m hO).N) (r : Fin 128) (x : Fin 128) :
    (((cfgM m hO).win 2).blk t).view.emb (ix3 0 r x) = ix3 (bt m hO t) r (x) := by
  funext a
  apply Fin.ext
  fin_cases a <;> (blk_simp [e2 m hO t, bt]; rfl)

/-- Its block at an index. -/
theorem B2_at (t : Fin (cfgM m hO).N) (r : Fin 128) (x : Fin 128) :
    B2 m hO c t (ix3 0 r x) = (m ((c : Thread nD τ).loc main_arg2)) (ix3 (bt m hO t) r (x)) :=
  congrArg (m ((c : Thread nD τ).loc main_arg2)) (emb2 m hO t r x)

/-- Window 3's block index, -/
theorem e3 (t : Fin (cfgM m hO).N) : ((cfgM m hO).win 3).index t = ![t.val / 5, 0, t.val % 5] :=
  (by decide +kernel : ∀ t : Fin grid0.N, cc0_transform_3 (grid0.coords t) = ![t.val / 5, 0, t.val % 5]) t

/-- and where its block lies in the array. -/
theorem emb3 (t : Fin (cfgM m hO).N) (r : Fin 128) (x : Fin 1024) :
    (((cfgM m hO).win 3).blk t).view.emb (ix3 0 r x) = ix3 (bt m hO t) r (cl m hO t x) := by
  funext a
  apply Fin.ext
  fin_cases a <;> (blk_simp [e3 m hO t, bt, cl]; rfl)

/-- Its block at an index. -/
theorem B3_at (t : Fin (cfgM m hO).N) (r : Fin 128) (x : Fin 1024) :
    B3 m hO c t (ix3 0 r x) = (m ((c : Thread nD τ).loc main_arg3)) (ix3 (bt m hO t) r (cl m hO t x)) :=
  congrArg (m ((c : Thread nD τ).loc main_arg3)) (emb3 m hO t r x)

/-- Window 4's block index, -/
theorem e4 (t : Fin (cfgM m hO).N) : ((cfgM m hO).win 4).index t = ![t.val / 5, 0, 0] :=
  (by decide +kernel : ∀ t : Fin grid0.N, cc0_transform_4 (grid0.coords t) = ![t.val / 5, 0, 0]) t

/-- and where its block lies in the array. -/
theorem emb4 (t : Fin (cfgM m hO).N) (r : Fin 128) (x : Fin 20) :
    (((cfgM m hO).win 4).blk t).view.emb (ix3 0 r x) = ix3 (bt m hO t) r (x) := by
  funext a
  apply Fin.ext
  fin_cases a <;> (blk_simp [e4 m hO t, bt]; rfl)

/-- Its block at an index. -/
theorem B4_at (t : Fin (cfgM m hO).N) (r : Fin 128) (x : Fin 20) :
    B4 m hO c t (ix3 0 r x) = (m ((c : Thread nD τ).loc main_arg4)) (ix3 (bt m hO t) r (x)) :=
  congrArg (m ((c : Thread nD τ).loc main_arg4)) (emb4 m hO t r x)

/-- Window 5's block index, -/
theorem e5 (t : Fin (cfgM m hO).N) : ((cfgM m hO).win 5).index t = ![t.val / 5, 0, t.val % 5] :=
  (by decide +kernel : ∀ t : Fin grid0.N, cc0_transform_5 (grid0.coords t) = ![t.val / 5, 0, t.val % 5]) t

/-- and where its block lies in the array. -/
theorem emb5 (t : Fin (cfgM m hO).N) (r : Fin 128) (x : Fin 1024) :
    (((cfgM m hO).win 5).blk t).view.emb (ix3 0 r x) = ix3 (bt m hO t) r (cl m hO t x) := by
  funext a
  apply Fin.ext
  fin_cases a <;> (blk_simp [e5 m hO t, bt, cl]; rfl)

/-- Its block at an index. -/
theorem B5_at (t : Fin (cfgM m hO).N) (r : Fin 128) (x : Fin 1024) :
    B5 m hO c t (ix3 0 r x) = (m ((c : Thread nD τ).loc main_arg5)) (ix3 (bt m hO t) r (cl m hO t x)) :=
  congrArg (m ((c : Thread nD τ).loc main_arg5)) (emb5 m hO t r x)

/-- Window 6's block index, -/
theorem e6 (t : Fin (cfgM m hO).N) : ((cfgM m hO).win 6).index t = ![t.val / 5, 0, 0] :=
  (by decide +kernel : ∀ t : Fin grid0.N, cc0_transform_6 (grid0.coords t) = ![t.val / 5, 0, 0]) t

/-- and where its block lies in the array. -/
theorem emb6 (t : Fin (cfgM m hO).N) (r : Fin 128) (x : Fin 20) :
    (((cfgM m hO).win 6).blk t).view.emb (ix3 0 r x) = ix3 (bt m hO t) r (x) := by
  funext a
  apply Fin.ext
  fin_cases a <;> (blk_simp [e6 m hO t, bt]; rfl)

/-- Its block at an index. -/
theorem B6_at (t : Fin (cfgM m hO).N) (r : Fin 128) (x : Fin 20) :
    B6 m hO c t (ix3 0 r x) = (m ((c : Thread nD τ).loc main_arg6)) (ix3 (bt m hO t) r (x)) :=
  congrArg (m ((c : Thread nD τ).loc main_arg6)) (emb6 m hO t r x)

/-- Window 7's block index, -/
theorem e7 (t : Fin (cfgM m hO).N) : ((cfgM m hO).win 7).index t = ![t.val / 5, 0, 0] :=
  (by decide +kernel : ∀ t : Fin grid0.N, cc0_transform_7 (grid0.coords t) = ![t.val / 5, 0, 0]) t

/-- and where its block lies in the array. -/
theorem emb7 (t : Fin (cfgM m hO).N) (r : Fin 128) (x : Fin 128) :
    (((cfgM m hO).win 7).blk t).view.emb (ix3 0 r x) = ix3 (bt m hO t) r (x) := by
  funext a
  apply Fin.ext
  fin_cases a <;> (blk_simp [e7 m hO t, bt]; rfl)

/-- Its block at an index. -/
theorem B7_at (t : Fin (cfgM m hO).N) (r : Fin 128) (x : Fin 128) :
    B7 m hO c t (ix3 0 r x) = (m ((c : Thread nD τ).loc main_arg7)) (ix3 (bt m hO t) r (x)) :=
  congrArg (m ((c : Thread nD τ).loc main_arg7)) (emb7 m hO t r x)

/-- Window 8's block index, -/
theorem e8 (t : Fin (cfgM m hO).N) : ((cfgM m hO).win 8).index t = ![t.val / 5, 0, t.val % 5] :=
  (by decide +kernel : ∀ t : Fin grid0.N, cc0_transform_8 (grid0.coords t) = ![t.val / 5, 0, t.val % 5]) t

/-- and where its block lies in the array. -/
theorem emb8 (t : Fin (cfgM m hO).N) (r : Fin 128) (x : Fin 1024) :
    (((cfgM m hO).win 8).blk t).view.emb (ix3 0 r x) = ix3 (bt m hO t) r (cl m hO t x) := by
  funext a
  apply Fin.ext
  fin_cases a <;> (blk_simp [e8 m hO t, bt, cl]; rfl)

/-- Window 9's block index, -/
theorem e9 (t : Fin (cfgM m hO).N) : ((cfgM m hO).win 9).index t = ![t.val / 5, 0, t.val % 5] :=
  (by decide +kernel : ∀ t : Fin grid0.N, cc0_transform_9 (grid0.coords t) = ![t.val / 5, 0, t.val % 5]) t

/-- and where its block lies in the array. -/
theorem emb9 (t : Fin (cfgM m hO).N) (r : Fin 128) (x : Fin 1024) :
    (((cfgM m hO).win 9).blk t).view.emb (ix3 0 r x) = ix3 (bt m hO t) r (cl m hO t x) := by
  funext a
  apply Fin.ext
  fin_cases a <;> (blk_simp [e9 m hO t, bt, cl]; rfl)

/-- Window 10's block index, -/
theorem e10 (t : Fin (cfgM m hO).N) : ((cfgM m hO).win 10).index t = ![t.val / 5, 0, 0] :=
  (by decide +kernel : ∀ t : Fin grid0.N, cc0_transform_10 (grid0.coords t) = ![t.val / 5, 0, 0]) t

/-- and where its block lies in the array. -/
theorem emb10 (t : Fin (cfgM m hO).N) (r : Fin 128) (x : Fin 128) :
    (((cfgM m hO).win 10).blk t).view.emb (ix3 0 r x) = ix3 (bt m hO t) r (x) := by
  funext a
  apply Fin.ext
  fin_cases a <;> (blk_simp [e10 m hO t, bt]; rfl)

/-- Window 11's block index, -/
theorem e11 (t : Fin (cfgM m hO).N) : ((cfgM m hO).win 11).index t = ![t.val / 5, 0, t.val % 5] :=
  (by decide +kernel : ∀ t : Fin grid0.N, cc0_transform_11 (grid0.coords t) = ![t.val / 5, 0, t.val % 5]) t

/-- and where its block lies in the array. -/
theorem emb11 (t : Fin (cfgM m hO).N) (r : Fin 128) (x : Fin 1024) :
    (((cfgM m hO).win 11).blk t).view.emb (ix3 0 r x) = ix3 (bt m hO t) r (cl m hO t x) := by
  funext a
  apply Fin.ext
  fin_cases a <;> (blk_simp [e11 m hO t, bt, cl]; rfl)

/-- Window 12's block index, -/
theorem e12 (t : Fin (cfgM m hO).N) : ((cfgM m hO).win 12).index t = ![t.val / 5, 0, 0] :=
  (by decide +kernel : ∀ t : Fin grid0.N, cc0_transform_12 (grid0.coords t) = ![t.val / 5, 0, 0]) t

/-- and where its block lies in the array. -/
theorem emb12 (t : Fin (cfgM m hO).N) (r : Fin 128) (x : Fin 20) :
    (((cfgM m hO).win 12).blk t).view.emb (ix3 0 r x) = ix3 (bt m hO t) r (x) := by
  funext a
  apply Fin.ext
  fin_cases a <;> (blk_simp [e12 m hO t, bt]; rfl)

/-- Window 13's block index, -/
theorem e13 (t : Fin (cfgM m hO).N) : ((cfgM m hO).win 13).index t = ![t.val / 5, 0, t.val % 5] :=
  (by decide +kernel : ∀ t : Fin grid0.N, cc0_transform_13 (grid0.coords t) = ![t.val / 5, 0, t.val % 5]) t

/-- and where its block lies in the array. -/
theorem emb13 (t : Fin (cfgM m hO).N) (r : Fin 128) (x : Fin 1024) :
    (((cfgM m hO).win 13).blk t).view.emb (ix3 0 r x) = ix3 (bt m hO t) r (cl m hO t x) := by
  funext a
  apply Fin.ext
  fin_cases a <;> (blk_simp [e13 m hO t, bt, cl]; rfl)

/-- Window 14's block index, -/
theorem e14 (t : Fin (cfgM m hO).N) : ((cfgM m hO).win 14).index t = ![t.val / 5, 0, 0] :=
  (by decide +kernel : ∀ t : Fin grid0.N, cc0_transform_14 (grid0.coords t) = ![t.val / 5, 0, 0]) t

/-- and where its block lies in the array. -/
theorem emb14 (t : Fin (cfgM m hO).N) (r : Fin 128) (x : Fin 20) :
    (((cfgM m hO).win 14).blk t).view.emb (ix3 0 r x) = ix3 (bt m hO t) r (x) := by
  funext a
  apply Fin.ext
  fin_cases a <;> (blk_simp [e14 m hO t, bt]; rfl)

end Cert.KernelIdeal.Gen
-- ==== Proof.V.Scalar.lean ====
/- The scalar identities over the extended reals that join the kernel's arithmetic to the reference's. -/
module

public import proofs.«01_k».proof.Proof.V.Tile

@[expose] public section

noncomputable section

namespace Cert.Scalars

open Idealize.ShloMosaic

/-! The constants. -/

/-- The decay. -/
abbrev b1 : ℝ := 15938355 / 16777216
/-- The smallest normal number. -/
abbrev tiny : ℝ := (2 : ℝ) ^ (-126 : ℤ)

theorem c_b1 : Ideal.ofBits .f32 0x3F733333#32 = ((b1 : ℝ) : EReal) := by
  unfold b1; simp [Ideal.ofBits, Ideal.ieee, -EReal.coe_mul]; norm_num
theorem c_one : Ideal.ofBits .f32 0x3F800000#32 = 1 := by
  rw [show (1 : EReal) = ((1 : ℝ) : EReal) from rfl]; simp [Ideal.ofBits, Ideal.ieee, -EReal.coe_mul, -EReal.coe_one]; norm_num
theorem c_zero : Ideal.ofBits .f32 0x00000000#32 = 0 := by simp [Ideal.ofBits, Ideal.ieee]
theorem c_127 : Ideal.ofBits .f32 0x42FE0000#32 = ((127 : ℝ) : EReal) := by simp [Ideal.ofBits, Ideal.ieee, -EReal.coe_mul]; norm_num
theorem c_n127 : Ideal.ofBits .f32 0xC2FE0000#32 = ((-127 : ℝ) : EReal) := by simp [Ideal.ofBits, Ideal.ieee, -EReal.coe_mul, -EReal.coe_neg]; norm_num
theorem c_tiny : Ideal.ofBits .f32 0x00800000#32 = ((tiny : ℝ) : EReal) := by unfold tiny; simp [Ideal.ofBits, Ideal.ieee, -EReal.coe_mul]; norm_num
theorem c_127tiny : Ideal.ofBits .f32 0x03FE0000#32 = ((127 * tiny : ℝ) : EReal) := by unfold tiny; simp [Ideal.ofBits, Ideal.ieee, -EReal.coe_mul]; norm_num
theorem c_top : Ideal.ofBits .f32 0x7F800000#32 = ⊤ := by simp [Ideal.ofBits, Ideal.ieee]
theorem c_bot : Ideal.ofBits .f32 0xFF800000#32 = ⊥ := by simp [Ideal.ofBits, Ideal.ieee]
theorem c_nlr : Ideal.ofBits .f32 0xBB449BA6#32 = -Ideal.ofBits .f32 0x3B449BA6#32 := by
  rw [show Ideal.ofBits .f32 0xBB449BA6#32 = ((-(12884902 * (2 : ℝ) ^ (-32 : ℤ)) : ℝ) : EReal) by simp [Ideal.ofBits, Ideal.ieee, -EReal.coe_mul, -EReal.coe_neg],
    show Ideal.ofBits .f32 0x3B449BA6#32 = ((12884902 * (2 : ℝ) ^ (-32 : ℤ) : ℝ) : EReal) by simp [Ideal.ofBits, Ideal.ieee, -EReal.coe_mul], EReal.coe_neg]

theorem tiny_pos : 0 < tiny := by unfold tiny; positivity

/-! The step size. -/

/-- The kernel's decayed power is the reference's. -/
theorem pow_eq (t : ℝ) : Ideal.exp (((t : ℝ) : EReal) * ((Real.log b1 : ℝ) : EReal)) = Ideal.pow ((b1 : ℝ) : EReal) ((t : ℝ) : EReal) := by
  rw [← EReal.coe_mul, Ideal.exp_coe, Ideal.pow_coe_coe]
  congr 1
  show _ = b1 ^ t
  rw [Real.rpow_def_of_pos (by unfold b1; norm_num), mul_comm]

/-- No power of the decay but the zeroth is one. -/
theorem pow_ne (t : ℝ) (ht : t ≠ 0) : (1 : EReal) - Ideal.pow ((b1 : ℝ) : EReal) ((t : ℝ) : EReal) ≠ 0 := by
  rw [Ideal.pow_coe_coe, show (1 : EReal) = ((1 : ℝ) : EReal) from rfl, ← EReal.coe_sub]
  intro h
  have h' : (1 : ℝ) - Real.rpow b1 t = 0 := by exact_mod_cast h
  have h1 : b1 ^ t = 1 := by have : Real.rpow b1 t = 1 := by linarith
                             exact this
  rw [Real.rpow_def_of_pos (by unfold b1; norm_num)] at h1
  have h2 := Real.exp_eq_one_iff _ |>.mp h1
  rcases mul_eq_zero.mp h2 with h3 | h3
  · have : Real.log b1 < 0 := Real.log_neg (by unfold b1; norm_num) (by unfold b1; norm_num)
    linarith
  · exact ht h3

/-- The kernel's step size is the reference's, negated. -/
theorem sz_eq (t : ℝ) (ht : t ≠ 0) :
    Ideal.div (Ideal.ofBits .f32 0xBB449BA6#32 * Ideal.sqrt (1 - Ideal.exp (((t : ℝ) : EReal) * ((Real.log b1 : ℝ) : EReal)))) (1 - Ideal.exp (((t : ℝ) : EReal) * ((Real.log b1 : ℝ) : EReal)))
      = -Ideal.div (Ideal.ofBits .f32 0x3B449BA6#32 * Ideal.sqrt (1 - Ideal.pow ((b1 : ℝ) : EReal) ((t : ℝ) : EReal))) (1 - Ideal.pow ((b1 : ℝ) : EReal) ((t : ℝ) : EReal)) := by
  rw [pow_eq, c_nlr, Ideal.div, Ideal.div, if_neg (pow_ne t ht), if_neg (pow_ne t ht), EReal.neg_mul, EReal.neg_mul]

/-! The normalised moment. -/

/-- The kernel's square root is the reference's. -/
theorem sqrt_eq (v : EReal) (h : v = 0 ∨ ((tiny : ℝ) : EReal) ≤ v ∧ v < ⊤) : v * Ideal.rsqrt (max v ((tiny : ℝ) : EReal)) = Ideal.sqrt v := by
  rcases h with h | ⟨h1, h2⟩
  · rw [h, zero_mul, show (0 : EReal) = ((0 : ℝ) : EReal) from rfl, Ideal.sqrt_coe]; simp
  · rw [max_eq_left h1]
    induction v with
    | bot => exact absurd h1 (by simp)
    | top => exact absurd h2 (by simp)
    | coe r =>
      have hr : tiny ≤ r := by exact_mod_cast h1
      have h0 : 0 < r := lt_of_lt_of_le tiny_pos hr
      rw [Ideal.rsqrt_coe, Ideal.sqrt_coe, if_neg (by linarith), if_neg (by linarith), if_neg (by linarith), ← EReal.coe_mul]
      congr 1
      rw [← div_eq_mul_inv, Real.div_sqrt]

/-! The quantisation. -/

/-- The scale of a block whose largest entry is `a`. -/
def scl (a : EReal) : EReal := if a = 0 then 1 else Ideal.div a ((127 : ℝ) : EReal)

/-- A quotient by the scale. -/
theorem quot_eq (m a : EReal) (h : (a = 0 ∧ m = 0) ∨ ((127 * tiny : ℝ) : EReal) ≤ a) :
    m * Ideal.div 1 (max (a * ((1 / 127 : ℝ) : EReal)) ((tiny : ℝ) : EReal)) = Ideal.div m (scl a) := by
  unfold scl
  rcases h with ⟨h1, h2⟩ | h
  · rw [h1, h2, zero_mul, if_pos rfl, Ideal.div, if_neg one_ne_zero, zero_mul]
  · have ht : ((127 * tiny : ℝ) : EReal) * ((1 / 127 : ℝ) : EReal) = ((tiny : ℝ) : EReal) := by rw [← EReal.coe_mul]; congr 1; ring
    have hp : (0 : EReal) < ((tiny : ℝ) : EReal) := by exact_mod_cast tiny_pos
    have hs : ((tiny : ℝ) : EReal) ≤ a * ((1 / 127 : ℝ) : EReal) := by
      rw [← ht]
      exact mul_le_mul_of_nonneg_right h (by exact_mod_cast (by norm_num : (0 : ℝ) ≤ 1 / 127))
    have ha : a ≠ 0 := by
      rintro rfl
      rw [zero_mul] at hs
      exact absurd hs (not_le.mpr hp)
    have h0 : a * ((1 / 127 : ℝ) : EReal) ≠ 0 := (lt_of_lt_of_le hp hs).ne'
    rw [if_neg ha, max_eq_left hs, Ideal.div_coe (by norm_num), Ideal.div, Ideal.div, if_neg h0, if_neg h0, one_mul]

/-- The scale as the kernel computes it. -/
theorem scl_eq (a : EReal) : scl a = if a = 0 then 1 else a * ((1 / 127 : ℝ) : EReal) := by
  unfold scl
  rw [Ideal.div_coe (by norm_num)]

/-- A value clipped to the codes' range converts to eight bits the same way at once or through thirty-two. -/
theorem conv_eq (lo : ℝ) (hlo : -127 ≤ lo) (hhi : lo ≤ 127) (x : EReal) :
    BitVec.setWidth 8 (Ideal.fptosi 32 (min ((127 : ℝ) : EReal) (max ((lo : ℝ) : EReal) x))) = Ideal.fptosi 8 (min ((127 : ℝ) : EReal) (max ((lo : ℝ) : EReal) x)) := by
  obtain ⟨r, hr, h1, h2⟩ : ∃ r : ℝ, min ((127 : ℝ) : EReal) (max ((lo : ℝ) : EReal) x) = (r : EReal) ∧ -127 ≤ r ∧ r ≤ 127 := by
    induction x with
    | bot => exact ⟨lo, by rw [max_eq_left bot_le, min_eq_right (by exact_mod_cast hhi)], hlo, hhi⟩
    | top => exact ⟨127, by rw [max_eq_right le_top, min_eq_left le_top], by norm_num, le_refl _⟩
    | coe x =>
      refine ⟨min 127 (max lo x), ?_, le_min (by norm_num) (le_max_of_le_left hlo), min_le_left _ _⟩
      rw [EReal.coe_strictMono.monotone.map_min, EReal.coe_strictMono.monotone.map_max]
  rw [hr]
  unfold Ideal.fptosi
  rw [Ideal.toIntClamped_coe, Ideal.toIntClamped_coe]
  obtain ⟨n, hn, h3, h4⟩ : ∃ n : ℤ, (if 0 ≤ r then ⌊r⌋ else ⌈r⌉) = n ∧ -127 ≤ n ∧ n ≤ 127 := by
    refine ⟨_, rfl, ?_, ?_⟩
    · split
      · exact Int.le_floor.mpr (by push_cast; linarith)
      · have : (-127 : ℤ) ≤ ⌈r⌉ := by
          have := Int.le_ceil r
          have h5 : (-127 : ℝ) ≤ (⌈r⌉ : ℝ) := by linarith
          exact_mod_cast h5
        exact this
    · split
      · have := Int.floor_le r
        have h5 : (⌊r⌋ : ℝ) ≤ (127 : ℝ) := by linarith
        exact_mod_cast h5
      · exact Int.ceil_le.mpr (by push_cast; linarith)
  rw [hn]
  have e1 : max (-((2 ^ (32 - 1) : ℕ) : ℤ)) (min (((2 ^ (32 - 1) : ℕ) : ℤ) - 1) n) = n := by norm_num; omega
  have e2 : max (-((2 ^ (8 - 1) : ℕ) : ℤ)) (min (((2 ^ (8 - 1) : ℕ) : ℤ) - 1) n) = n := by norm_num; omega
  rw [e1, e2]
  apply BitVec.eq_of_toNat_eq
  simp only [BitVec.toNat_setWidth, BitVec.toNat_ofInt]
  omega

end Cert.Scalars

end
-- ==== Proof.V.Ref.lean ====
/- What the reference computes, as named terms of its argument arrays, and each of them read at an index over the
   extended reals. -/
module

public import proofs.«01_k».proof.Proof.Gen.ReferenceIdeal.Run
public import Idealize.ShloMosaic.Lib.Pointwise
public import proofs.«01_k».proof.Proof.V.Scalar

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen

section defs
variable {F : FTy → Type} [FloatOps F] [Named F]

/-- The gradient in the rotated basis: `qᵀ g`, per batch entry and quantisation block. -/
def grR (q : FVec F S5x128x128 .bf16) (g : FVec F S5x128x5120 .bf16) : FVec F S5x128x20x256 .f32 :=
  Host.dotGeneral dot_S5x128x128_S5x128x20x256_S5x128x20x256_2_1_1_23_0_0 none (transpose S5x128x128 [0, 2, 1] q transposes_S5x128x128_S5x128x128_0_2_1) (shapeCast _ g shapeCasts_S5x128x5120_S5x128x20x256)

/-- A decayed moment, dequantised. -/
def decR (cd : IVec S5x128x5120 8) (s : FVec F S5x128x20 .f32) : FVec F S5x128x20x256 .f32 :=
  mulf (broadcastInDim S5x128x20x256 ![] bcast_S_S5x128x20x256 (constant S_ .f32 0x3F733333#32)) (mulf (sitofp .f32 (extsi 32 (shapeCast _ cd shapeCasts_S5x128x5120_S5x128x20x256) natLt_8_32)) (broadcastInDim S5x128x20x256 ![0, 1, 2, 3] bcast_S5x128x20x1_S5x128x20x256_0_1_2_3 (broadcastInDim S5x128x20x1 ![0, 1, 2] bcast_S5x128x20_S5x128x20x1_0_1_2 s)))

/-- The first moment. -/
def mR (q : FVec F S5x128x128 .bf16) (g : FVec F S5x128x5120 .bf16) (cd : IVec S5x128x5120 8) (s : FVec F S5x128x20 .f32) : FVec F S5x128x20x256 .f32 :=
  addf (decR cd s) (mulf (broadcastInDim S5x128x20x256 ![] bcast_S_S5x128x20x256 (constant S_ .f32 0x3D4CCCD0#32)) (grR q g))

/-- The second moment. -/
def vR (q : FVec F S5x128x128 .bf16) (g : FVec F S5x128x5120 .bf16) (cd : IVec S5x128x5120 8) (s : FVec F S5x128x20 .f32) : FVec F S5x128x20x256 .f32 :=
  addf (decR cd s) (mulf (broadcastInDim S5x128x20x256 ![] bcast_S_S5x128x20x256 (constant S_ .f32 0x3D4CCCD0#32)) (mulf (grR q g) (grR q g)))

/-- Each quantisation block's largest entry. -/
def amaxR (v : FVec F S5x128x20x256 .f32) : FVec F S5x128x20 .f32 :=
  Host.reduce FloatOps.maximumf v (constant S_ .f32 0xFF800000#32) reducesTo_S5x128x20x256_S5x128x20_d3 h_S_

/-- The scale of a block whose largest entry is `a`. -/
def scR (a : FVec F S5x128x20 .f32) : FVec F S5x128x20 .f32 :=
  select (cmpf .oeq a (broadcastInDim S5x128x20 ![] bcast_S_S5x128x20 (constant S_ .f32 0x00000000#32))) (broadcastInDim S5x128x20 ![] bcast_S_S5x128x20 (id (constant S_ .f32 0x3F800000#32))) (Host.divf a (broadcastInDim S5x128x20 ![] bcast_S_S5x128x20 (constant S_ .f32 0x42FE0000#32)))

/-- The codes of a moment under scales `s`, clipped below at the constant of pattern `lo`. -/
def cdR (lo : BitVec 32) (v : FVec F S5x128x20x256 .f32) (s : FVec F S5x128x20 .f32) : IVec S5x128x5120 8 :=
  shapeCast _ (trunci 8 (fptosi 32 (minimumf (broadcastInDim S5x128x20x256 ![] bcast_S_S5x128x20x256 (id (constant S_ .f32 0x42FE0000#32))) (maximumf (broadcastInDim S5x128x20x256 ![] bcast_S_S5x128x20x256 (id (constant S_ .f32 lo))) (Host.roundeven (Host.divf v (broadcastInDim S5x128x20x256 ![0, 1, 2, 3] bcast_S5x128x20x1_S5x128x20x256_0_1_2_3 (broadcastInDim S5x128x20x1 ![0, 1, 2] bcast_S5x128x20_S5x128x20x1_0_1_2 s))))))) natLt_8_32) shapeCasts_S5x128x20x256_S5x128x5120

/-- The bias-corrected step size, negated, per batch entry. -/
def szR (st : IVec S5 32) : FVec F S5x1x1x1 .f32 :=
  Host.negf (broadcastInDim S5x1x1x1 ![0] bcast_S5_S5x1x1x1_0 (Host.divf (mulf (broadcastInDim S5 ![] bcast_S_S5 (constant S_ .f32 0x3B449BA6#32)) (Host.sqrt (subf (broadcastInDim S5 ![] bcast_S_S5 (constant S_ .f32 0x3F800000#32)) (Host.powf (broadcastInDim S5 ![] bcast_S_S5 (constant S_ .f32 0x3F733333#32)) (sitofp .f32 st))))) (subf (broadcastInDim S5 ![] bcast_S_S5 (constant S_ .f32 0x3F800000#32)) (Host.powf (broadcastInDim S5 ![] bcast_S_S5 (constant S_ .f32 0x3F733333#32)) (sitofp .f32 st)))))

/-- The weight update from the moments. -/
def dR (st : IVec S5 32) (q : FVec F S5x128x128 .bf16) (mm vv : FVec F S5x128x20x256 .f32) : FVec F S5x128x5120 .f32 :=
  shapeCast _ (mulf (broadcastInDim S5x128x20x256 ![0, 1, 2, 3] bcast_S5x1x1x1_S5x128x20x256_0_1_2_3 (szR st)) (Host.dotGeneral dot_S5x128x128_S5x128x20x256_S5x128x20x256_2_1_1_23_0_0 none q (truncf .bf16 (Host.divf mm (addf (Host.sqrt vv) (broadcastInDim S5x128x20x256 ![] bcast_S_S5x128x20x256 (constant S_ .f32 0x322BCC77#32)))) bitsLt_bf16_f32))) shapeCasts_S5x128x20x256_S5x128x5120

/-- The running statistic of the gradient's outer product. -/
def lR (g : FVec F S5x128x5120 .bf16) (l : FVec F S5x128x128 .f32) : FVec F S5x128x128 .f32 :=
  addf (mulf (broadcastInDim S5x128x128 ![] bcast_S_S5x128x128 (constant S_ .f32 0x3F733333#32)) l) (mulf (broadcastInDim S5x128x128 ![] bcast_S_S5x128x128 (constant S_ .f32 0x3D4CCCD0#32)) (Host.dotGeneral dot_S5x128x5120_S5x128x5120_S5x128x128_2_2_1_1_0_0 none g g))

variable (m : (ℓ : Loc nD τ sig) → Buf (Elt F) ℓ) (ρ : Dev nD → PrngReg)

/-- The reference's first moment over the memory's arrays, -/
def mM (c : Dev nD) : FVec F S5x128x20x256 .f32 :=
  mR (m ((c.tc : Thread nD τ).loc main_arg2)) (m ((c.tc : Thread nD τ).loc main_arg1)) (m ((c.tc : Thread nD τ).loc main_arg3)) (m ((c.tc : Thread nD τ).loc main_arg4))
/-- and its second. -/
def vM (c : Dev nD) : FVec F S5x128x20x256 .f32 :=
  vR (m ((c.tc : Thread nD τ).loc main_arg2)) (m ((c.tc : Thread nD τ).loc main_arg1)) (m ((c.tc : Thread nD τ).loc main_arg5)) (m ((c.tc : Thread nD τ).loc main_arg6))

/-- The reference's run, every result named. -/
theorem run : θ_run defs (onTc (τ := τ) (main (F := F))) ⟨m, fun _ => 0, ρ⟩ fun r => ∀ c : Dev nD,
      r.2.mem ((c.tc : Thread nD τ).loc main_v50) = addf (m ((c.tc : Thread nD τ).loc main_arg0)) (dR (m ((c.tc : Thread nD τ).loc main_arg8)) (m ((c.tc : Thread nD τ).loc main_arg2)) (mM m c) (vM m c))
      ∧ r.2.mem ((c.tc : Thread nD τ).loc main_v49) = dR (m ((c.tc : Thread nD τ).loc main_arg8)) (m ((c.tc : Thread nD τ).loc main_arg2)) (mM m c) (vM m c)
      ∧ r.2.mem ((c.tc : Thread nD τ).loc main_v83) = lR (m ((c.tc : Thread nD τ).loc main_arg1)) (m ((c.tc : Thread nD τ).loc main_arg7))
      ∧ r.2.mem ((c.tc : Thread nD τ).loc main_v84) = cdR 0xC2FE0000#32 (mM m c) (scR (amaxR (Host.absf (mM m c))))
      ∧ r.2.mem ((c.tc : Thread nD τ).loc main_v57) = scR (amaxR (Host.absf (mM m c)))
      ∧ r.2.mem ((c.tc : Thread nD τ).loc main_v85) = cdR 0x00000000#32 (vM m c) (scR (amaxR (vM m c)))
      ∧ r.2.mem ((c.tc : Thread nD τ).loc main_v70) = scR (amaxR (vM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ

end defs

/-- Column `l` of quantisation block `n`. -/
def col (n : Fin 20) (l : Fin 256) : Fin 5120 := ⟨n.val * 256 + l.val, by have := n.isLt; have := l.isLt; omega⟩

/-- The rotated gradient at an index. -/
def grE (q : FVec Ideal S5x128x128 .bf16) (g : FVec Ideal S5x128x5120 .bf16) (b : Fin 5) (r : Fin 128) (j : Fin 5120) : EReal :=
  ∑ x : Fin 128, q (ix3 b x r) * g (ix3 b x j)

/-- The decayed code at an index. -/
def decE (cd : IVec S5x128x5120 8) (s : FVec Ideal S5x128x20 .f32) (b : Fin 5) (r : Fin 128) (n : Fin 20) (l : Fin 256) : EReal :=
  Ideal.ofBits .f32 0x3F733333#32 * ((((cd (ix3 b r (col n l))).toInt : ℝ) : EReal) * s (ix3 b r n))

theorem ext_toInt (w : BitVec 8) : (FloatOps.sitofp .f32 (BitVec.signExtend 32 w) : Ideal .f32) = ((w.toInt : ℝ) : EReal) := by
  show ((((BitVec.signExtend 32 w).toInt : ℤ) : ℝ) : EReal) = _
  rw [BitVec.toInt_signExtend_of_le (by decide)]

theorem mR_at (q : FVec Ideal S5x128x128 .bf16) (g : FVec Ideal S5x128x5120 .bf16) (cd : IVec S5x128x5120 8) (s : FVec Ideal S5x128x20 .f32)
    (b : Fin 5) (r : Fin 128) (n : Fin 20) (l : Fin 256) :
    mR (F := Ideal) q g cd s (ix4 b r n l) = decE cd s b r n l + Ideal.ofBits .f32 0x3D4CCCD0#32 * grE q g b r (col n l) := by
  unfold decE
  rw [← ext_toInt]
  pointwise [mR, decR, grR]
  rfl

theorem vR_at (q : FVec Ideal S5x128x128 .bf16) (g : FVec Ideal S5x128x5120 .bf16) (cd : IVec S5x128x5120 8) (s : FVec Ideal S5x128x20 .f32)
    (b : Fin 5) (r : Fin 128) (n : Fin 20) (l : Fin 256) :
    vR (F := Ideal) q g cd s (ix4 b r n l) = decE cd s b r n l + Ideal.ofBits .f32 0x3D4CCCD0#32 * (grE q g b r (col n l) * grE q g b r (col n l)) := by
  unfold decE
  rw [← ext_toInt]
  pointwise [vR, decR, grR]
  rfl

theorem amaxR_at (v : FVec Ideal S5x128x20x256 .f32) (b : Fin 5) (r : Fin 128) (n : Fin 20) :
    amaxR (F := Ideal) v (ix3 b r n) = Finset.fold max (Ideal.ofBits .f32 0xFF800000#32) (fun x : Fin 256 => v (ix4 b r n x)) Finset.univ := by
  pointwise [amaxR]
  try rfl

theorem abs_at (v : FVec Ideal S5x128x20x256 .f32) (i) : Host.absf v i = max (v i) (-v i) := rfl

theorem scR_at (v : FVec Ideal S5x128x20 .f32) (b : Fin 5) (r : Fin 128) (n : Fin 20) : scR (F := Ideal) v (ix3 b r n) = Cert.Scalars.scl (v (ix3 b r n)) := by
  unfold Cert.Scalars.scl
  rw [← Cert.Scalars.c_127]
  pointwise [scR]
  rw [show (id (constant (F := Ideal) S_ .f32 0x3F800000#32) ix0 : EReal) = 1 from Cert.Scalars.c_one]

theorem cdR_at (lo) (v : FVec Ideal S5x128x20x256 .f32) (s) (b : Fin 5) (r : Fin 128) (n : Fin 20) (l : Fin 256) :
    cdR (F := Ideal) lo v s (ix3 b r (col n l)) = BitVec.setWidth 8 (Ideal.fptosi 32 (min (Ideal.ofBits .f32 0x42FE0000#32) (max (Ideal.ofBits .f32 lo) (Ideal.liftRound Ideal.roundHalfEven (Ideal.div (v (ix4 b r n l)) (s (ix3 b r n))))))) := by
  have hn := n.isLt
  have hl := l.isLt
  have e1 : (⟨(col n l).val / 256, by show (n.val * 256 + l.val) / 256 < 20; omega⟩ : Fin 20) = n := Fin.ext (by show (n.val * 256 + l.val) / 256 = n.val; omega)
  have e2 : (⟨(col n l).val % 256, by omega⟩ : Fin 256) = l := Fin.ext (by show (n.val * 256 + l.val) % 256 = l.val; omega)
  pointwise [cdR]
  rw [e1, e2]
  rfl

/-- The reference's step size, negated. -/
def szE (st : IVec S5 32) (b : Fin 5) : EReal :=
  -Ideal.div (Ideal.ofBits .f32 0x3B449BA6#32 * Ideal.sqrt (1 - Ideal.pow (Ideal.ofBits .f32 0x3F733333#32) (((st (ix1 b)).toInt : ℝ) : EReal))) (1 - Ideal.pow (Ideal.ofBits .f32 0x3F733333#32) (((st (ix1 b)).toInt : ℝ) : EReal))

theorem dR_at (st) (q : FVec Ideal S5x128x128 .bf16) (mm vv) (b : Fin 5) (r : Fin 128) (n : Fin 20) (l : Fin 256) :
    dR (F := Ideal) st q mm vv (ix3 b r (col n l)) = szE st b * ∑ x : Fin 128, q (ix3 b r x) * Ideal.div (mm (ix4 b x n l)) (Ideal.sqrt (vv (ix4 b x n l)) + Ideal.ofBits .f32 0x322BCC77#32) := by
  have hn := n.isLt
  have hl := l.isLt
  have e1 : (⟨(col n l).val / 256, by show (n.val * 256 + l.val) / 256 < 20; omega⟩ : Fin 20) = n := Fin.ext (by show (n.val * 256 + l.val) / 256 = n.val; omega)
  have e2 : (⟨(col n l).val % 256, by omega⟩ : Fin 256) = l := Fin.ext (by show (n.val * 256 + l.val) % 256 = l.val; omega)
  unfold szE
  pointwise [dR, szR]
  simp only [e1, e2]
  rfl

theorem lR_at (g l) (b : Fin 5) (r : Fin 128) (n : Fin 128) : lR (F := Ideal) g l (ix3 b r n) =
    Ideal.ofBits .f32 0x3F733333#32 * l (ix3 b r n) + Ideal.ofBits .f32 0x3D4CCCD0#32 * ∑ x : Fin 5120, g (ix3 b r x) * g (ix3 b n x) := by
  pointwise [lR]
  try rfl

end Cert.ReferenceIdeal.Ref

end
-- ==== Proof.V.At.lean ====
/- The kernel's tile terms read at an index over the extended reals, as the reference's. -/
module

public import proofs.«01_k».proof.Proof.V.Lanes
public import proofs.«01_k».proof.Proof.V.Ref

@[expose] public section

set_option maxRecDepth 16384

noncomputable section

namespace Cert.KernelIdeal.Tile

open Idealize.ShloMosaic Idealize.ShloMosaic.TcCoe Idealize.ShloMosaic.Tactic
open Cert.KernelIdeal Cert.KernelIdeal.Gen Cert.Scalars
open Cert.ReferenceIdeal.Ref (col grE decE mR vR amaxR scR cdR dR szE)

/-- A tile of the blocks holds quantisation block `n` of batch entry `b` of the arrays. -/
structure Holds (q : FVec Ideal S5x128x128 .bf16) (g : FVec Ideal S5x128x5120 .bf16) (cd : IVec S5x128x5120 8) (s : FVec Ideal S5x128x20 .f32) (b : Fin 5) (n : Fin 20)
    (xq : Vec Ideal S1x128x128 .bf16) (xs : Vec Ideal S1x128x20 .f32) (xg : Vec Ideal S1x128x256 .bf16) (xc : Vec Ideal S1x128x256 .i8) : Prop where
  hq : ∀ r x : Fin 128, xq (ix3 0 r x) = q (ix3 b r x)
  hs : ∀ (r : Fin 128), xs (ix3 0 r n) = s (ix3 b r n)
  hg : ∀ (r : Fin 128) (l : Fin 256), xg (ix3 0 r l) = g (ix3 b r (col n l))
  hc : ∀ (r : Fin 128) (l : Fin 256), xc (ix3 0 r l) = cd (ix3 b r (col n l))

variable {q : FVec Ideal S5x128x128 .bf16} {g : FVec Ideal S5x128x5120 .bf16} {cd cd' : IVec S5x128x5120 8} {s s' : FVec Ideal S5x128x20 .f32} {b : Fin 5} {n : Fin 20}
  {xq : Vec Ideal S1x128x128 .bf16} {xs xs' : Vec Ideal S1x128x20 .f32} {xg : Vec Ideal S1x128x256 .bf16} {xc xc' : Vec Ideal S1x128x256 .i8} (z z' : Vec Ideal S128x128 .f32)

theorem pay4_at (xq : Vec Ideal S1x128x128 .bf16) (r x : Fin 128) : k0_pay4 (F := Ideal) xq (ix2 r x) = xq (ix3 0 x r) := by
  pointwise [k0_pay4]
  try rfl

theorem pay5_at (xs : Vec Ideal S1x128x20 .f32) (r : Fin 128) (n : Fin 20) : k0_pay5 (F := Ideal) xs (ix2 r n) = xs (ix3 0 r n) * Ideal.ofBits .f32 0x3F733333#32 := by
  pointwise [k0_pay5]
  try rfl

theorem pay6_eq (xs : Vec Ideal S1x128x20 .f32) : k0_pay6 (F := Ideal) xs = k0_pay5 xs := rfl

theorem pay11_at (qt : Vec Ideal S128x128 .bf16) (xg : Vec Ideal S1x128x256 .bf16) (r : Fin 128) (l : Fin 256) :
    k0_pay11 (F := Ideal) qt xg (ix2 r l) = ∑ x : Fin 128, qt (ix2 r x) * xg (ix3 0 x l) := by
  pointwise [k0_pay11]
  try rfl

theorem pay13_at (qt : Vec Ideal S128x128 .bf16) (xg : Vec Ideal S1x128x256 .bf16) (r : Fin 128) (l : Fin 256) :
    k0_pay13 (F := Ideal) qt xg (ix2 r l) = Ideal.ofBits .f32 0x3D4CCCD0#32 * k0_pay11 (F := Ideal) qt xg (ix2 r l) := by
  pointwise [k0_pay13, k0_pay11]
  try rfl

theorem deq_at (n : Fin 20) (t : Vec Ideal S128x128 .f32) (xc : Vec Ideal S1x128x256 .i8) (r : Fin 128) (l : Fin 256) :
    deq (F := Ideal) (BitVec.ofNat 32 n.val) t xc (ix2 r l) = ((((xc (ix3 0 r l)).toInt : ℝ)) : EReal) * t (ix2 r ⟨n.val, by have := n.isLt; omega⟩) := by
  unfold deq
  generalize hG : gather (F := Ideal) (BitVec.ofNat 32 n.val) t = G
  pointwise []
  subst hG
  refine congrArg₂ (· * ·) rfl ?_
  split <;> exact gather_at _ _ _ _

theorem Holds.gr (h : Holds q g cd s b n xq xs xg xc) (r : Fin 128) (l : Fin 256) : k0_pay11 (F := Ideal) (k0_pay4 xq) xg (ix2 r l) = grE q g b r (col n l) := by
  rw [pay11_at]
  unfold grE
  simp only [pay4_at, h.hq, h.hg]

theorem Holds.dec (h : Holds q g cd s b n xq xs xg xc) (r : Fin 128) (l : Fin 256) : deq (F := Ideal) (BitVec.ofNat 32 n.val) (ov z (k0_pay5 xs)) xc (ix2 r l) = decE cd s b r n l := by
  rw [deq_at, ov_at, dif_pos n.isLt, pay5_at, h.hs, h.hc]
  unfold decE
  rw [← mul_assoc, mul_comm]

theorem Holds.m (h : Holds q g cd s b n xq xs xg xc) (r : Fin 128) (l : Fin 256) :
    mT (F := Ideal) (BitVec.ofNat 32 n.val) (k0_pay4 xq) (ov z (k0_pay5 xs)) xg xc (ix2 r l) = mR q g cd s (ix4 b r n l) := by
  rw [Cert.ReferenceIdeal.Ref.mR_at, ← h.dec z, ← h.gr, ← pay13_at]
  rfl

theorem Holds.v (h : Holds q g cd s b n xq xs xg xc) (r : Fin 128) (l : Fin 256) :
    vT (F := Ideal) (BitVec.ofNat 32 n.val) (k0_pay4 xq) (ov z (k0_pay5 xs)) xg xc (ix2 r l) = vR q g cd s (ix4 b r n l) := by
  rw [Cert.ReferenceIdeal.Ref.vR_at, ← h.dec z, ← h.gr, ← mul_assoc, ← pay13_at]
  rfl

/-- The largest first moment of a row of the tile, -/
theorem Holds.ma (h : Holds q g cd s b n xq xs xg xc) (r : Fin 128) :
    maT (F := Ideal) (BitVec.ofNat 32 n.val) (k0_pay4 xq) (ov z (k0_pay5 xs)) xg xc (ix2 r 0) = amaxR (F := Ideal) (Host.absf (mR q g cd s)) (ix3 b r n) := by
  rw [Cert.ReferenceIdeal.Ref.amaxR_at]
  unfold maT
  generalize hM : mT (F := Ideal) (BitVec.ofNat 32 n.val) (k0_pay4 xq) (ov z (k0_pay5 xs)) xg xc = M
  pointwise [k0_pay20]
  subst hM
  simp only [h.m]
  try rfl

/-- and second. -/
theorem Holds.va (h : Holds q g cd s b n xq xs xg xc) (r : Fin 128) :
    vaT (F := Ideal) (BitVec.ofNat 32 n.val) (k0_pay4 xq) (ov z (k0_pay5 xs)) xg xc (ix2 r 0) = amaxR (F := Ideal) (vR q g cd s) (ix3 b r n) := by
  rw [Cert.ReferenceIdeal.Ref.amaxR_at]
  have e : vaT (F := Ideal) (BitVec.ofNat 32 n.val) (k0_pay4 xq) (ov z (k0_pay5 xs)) xg xc (ix2 r 0)
      = Finset.fold max (Ideal.ofBits .f32 0xFF800000#32) (fun x : Fin 256 => vT (F := Ideal) (BitVec.ofNat 32 n.val) (k0_pay4 xq) (ov z (k0_pay5 xs)) xg xc (ix2 r x)) Finset.univ := by
    unfold vaT vT
    generalize deq (F := Ideal) (BitVec.ofNat 32 n.val) (ov z (k0_pay5 xs)) xc = D
    generalize k0_pay11 (F := Ideal) (k0_pay4 xq) xg = G
    generalize k0_pay13 (F := Ideal) (k0_pay4 xq) xg = H
    pointwise [k0_pay21, k0_pay16]
    try rfl
  rw [e]
  simp only [h.v]

/-- An entry is at most its block's largest. -/
theorem le_amax (v : FVec Ideal Cert.ReferenceIdeal.S5x128x20x256 .f32) (b : Fin 5) (r : Fin 128) (n : Fin 20) (l : Fin 256) : v (ix4 b r n l) ≤ amaxR (F := Ideal) v (ix3 b r n) := by
  rw [Cert.ReferenceIdeal.Ref.amaxR_at]
  exact Finset.le_fold_max _ |>.mpr (Or.inr ⟨l, Finset.mem_univ _, le_refl _⟩)

theorem inv127 : Named.named (F := Ideal) Cert.KernelIdeal.κ "inv_127" (φ := .f32) 0x3C010204#32 = ((1 / 127 : ℝ) : EReal) :=
  IdealRules.named_const.ideal_named_scalar _ _ _ _ rfl

theorem logd : Named.named (F := Ideal) Cert.KernelIdeal.κ "log_decay" (φ := .f32) 0xBD5218EE#32 = ((Real.log b1 : ℝ) : EReal) :=
  IdealRules.named_const.ideal_named_scalar _ _ _ _ rfl

/-- The first moment's code, -/
theorem Holds.mc (h : Holds q g cd s b n xq xs xg xc) (hp : ∀ r, let a := amaxR (F := Ideal) (Host.absf (mR q g cd s)) (ix3 b r n); a = 0 ∨ ((127 * tiny : ℝ) : EReal) ≤ a) (r : Fin 128) (l : Fin 256) :
    mcT (F := Ideal) (BitVec.ofNat 32 n.val) (k0_pay4 xq) (ov z (k0_pay5 xs)) xg xc (ix3 0 r l)
      = cdR (F := Ideal) 0xC2FE0000#32 (mR q g cd s) (scR (amaxR (Host.absf (mR q g cd s)))) (ix3 b r (col n l)) := by
  have e := h.ma z r
  have e' := h.m z r l
  unfold maT at e
  rw [Cert.ReferenceIdeal.Ref.cdR_at, Cert.ReferenceIdeal.Ref.scR_at, c_127, c_n127, conv_eq _ (le_refl _) (by norm_num), ← quot_eq, ← c_127, ← c_n127, ← c_tiny, ← e', ← e, ← inv127]
  · unfold mcT
    generalize mT (F := Ideal) (BitVec.ofNat 32 n.val) (k0_pay4 xq) (ov z (k0_pay5 xs)) xg xc = M
    pointwise [k0_pay25, k0_pay22, k0_pay20]
    rfl
  · rcases hp r with h0 | h0
    · refine Or.inl ⟨h0, ?_⟩
      have h1 := le_amax (Host.absf (F := Ideal) (mR q g cd s)) b r n l
      rw [h0, Cert.ReferenceIdeal.Ref.abs_at] at h1
      exact le_antisymm ((le_max_left _ _).trans h1) (by simpa using EReal.neg_le_neg_iff.mpr ((le_max_right _ _).trans h1))
    · exact Or.inr h0

/-- the second moment's. -/
theorem Holds.vc (h : Holds q g cd s b n xq xs xg xc) (hp : ∀ r, let a := amaxR (F := Ideal) (vR q g cd s) (ix3 b r n); a = 0 ∨ ((127 * tiny : ℝ) : EReal) ≤ a)
    (hv : ∀ r l, vR q g cd s (ix4 b r n l) = 0 ∨ ((tiny : ℝ) : EReal) ≤ vR q g cd s (ix4 b r n l)) (r : Fin 128) (l : Fin 256) :
    vcT (F := Ideal) (BitVec.ofNat 32 n.val) (k0_pay4 xq) (ov z (k0_pay5 xs)) xg xc (ix3 0 r l)
      = cdR (F := Ideal) 0x00000000#32 (vR q g cd s) (scR (amaxR (vR q g cd s))) (ix3 b r (col n l)) := by
  have e := h.va z r
  have e' := h.v z r l
  unfold vaT at e
  have c0 : Ideal.ofBits .f32 0x00000000#32 = ((0 : ℝ) : EReal) := c_zero
  rw [Cert.ReferenceIdeal.Ref.cdR_at, Cert.ReferenceIdeal.Ref.scR_at, c_127, c0, conv_eq _ (by norm_num) (by norm_num), ← quot_eq, ← c_127, ← c0, ← c_tiny, ← e', ← e, ← inv127]
  · unfold vcT
    generalize vT (F := Ideal) (BitVec.ofNat 32 n.val) (k0_pay4 xq) (ov z (k0_pay5 xs)) xg xc = M
    generalize deq (F := Ideal) (BitVec.ofNat 32 n.val) (ov z (k0_pay5 xs)) xc = D
    generalize k0_pay11 (F := Ideal) (k0_pay4 xq) xg = G
    generalize k0_pay13 (F := Ideal) (k0_pay4 xq) xg = H
    pointwise [k0_pay26, k0_pay24, k0_pay23, k0_pay21, k0_pay16]
    rfl
  · rcases hp r with h0 | h0
    · refine Or.inl ⟨h0, ?_⟩
      have h1 := le_amax (vR (F := Ideal) q g cd s) b r n l
      rw [h0] at h1
      rcases hv r l with h2 | h2
      · exact h2
      · exact le_antisymm h1 (le_trans (by exact_mod_cast tiny_pos.le) h2)
    · exact Or.inr h0

/-- The step size, -/
theorem sz_at (st : IVec S5 32) (b : Fin 5) (w : BitVec 32) (hw : w = st (ix1 b)) (h0 : w ≠ 0#32) (l : Fin 256) : k0_pay8 (F := Ideal) w (ix2 0 l) = szE st b := by
  have ht : ((w.toInt : ℝ)) ≠ 0 := by
    intro h
    apply h0
    have h1 : w.toInt = 0 := by exact_mod_cast h
    exact BitVec.eq_of_toInt_eq (by rw [h1]; rfl)
  unfold szE
  rw [← hw, c_b1, ← sz_eq _ ht, ← logd, ← c_one]
  pointwise [k0_pay8]
  rfl

/-- the update, -/
theorem Holds.d (h : Holds q g cd s b n xq xs xg xc) (h' : Holds q g cd' s' b n xq xs' xg xc') (sz : FVec Ideal S1x256 .f32) (st : IVec S5 32) (hsz : ∀ l, sz (ix2 0 l) = szE st b)
    (hv : ∀ r l, vR q g cd' s' (ix4 b r n l) = 0 ∨ (((tiny : ℝ) : EReal) ≤ vR q g cd' s' (ix4 b r n l) ∧ vR q g cd' s' (ix4 b r n l) < ⊤)) (r : Fin 128) (l : Fin 256) :
    dT (F := Ideal) (BitVec.ofNat 32 n.val) sz xq (k0_pay4 xq) (ov z (k0_pay5 xs)) (ov z' (k0_pay5 xs')) xg xc xc' (ix3 0 r l)
      = dR st q (mR q g cd s) (vR q g cd' s') (ix3 b r (col n l)) := by
  rw [Cert.ReferenceIdeal.Ref.dR_at, ← hsz l]
  simp only [fun x => (sqrt_eq _ (hv x l)).symm]
  simp only [← h.m z, ← h'.v z', ← h.hq, ← c_tiny]
  unfold dT vT
  generalize mT (F := Ideal) (BitVec.ofNat 32 n.val) (k0_pay4 xq) (ov z (k0_pay5 xs)) xg xc = M
  generalize deq (F := Ideal) (BitVec.ofNat 32 n.val) (ov z' (k0_pay5 xs')) xc' = D
  generalize k0_pay11 (F := Ideal) (k0_pay4 xq) xg = G
  generalize k0_pay13 (F := Ideal) (k0_pay4 xq) xg = H
  pointwise [k0_pay18, k0_pay17, k0_pay16, k0_pay10]
  try rfl

/-- and the weights. -/
theorem w_at (n : BitVec 32) (sz : FVec Ideal S1x256 .f32) (xq : Vec Ideal S1x128x128 .bf16) (qt : Vec Ideal S128x128 .bf16) (ms vs : Vec Ideal S128x128 .f32) (xg : Vec Ideal S1x128x256 .bf16) (mc vc : Vec Ideal S1x128x256 .i8) (w : Vec Ideal S1x128x256 .f32) (r : Fin 128) (l : Fin 256) :
    wT (F := Ideal) n sz xq qt ms vs xg mc vc w (ix3 0 r l) = w (ix3 0 r l) + dT (F := Ideal) n sz xq qt ms vs xg mc vc (ix3 0 r l) := by
  unfold wT dT
  generalize mT (F := Ideal) n qt ms xg mc = M
  generalize deq (F := Ideal) n vs vc = D
  generalize k0_pay11 (F := Ideal) qt xg = G
  generalize k0_pay13 (F := Ideal) qt xg = H
  generalize k0_pay10 (F := Ideal) xq = Q
  pointwise [k0_pay19, k0_pay18]
  try rfl

end Cert.KernelIdeal.Tile

end
-- ==== Proof.V.Values.lean ====
/- The points' blocks hold the arrays' quantisation blocks; the scratch's values, at an index, in terms of the arrays. -/
module

public import proofs.«01_k».proof.Proof.V.Blocks
public import proofs.«01_k».proof.Proof.V.At

@[expose] public section

set_option maxRecDepth 16384

noncomputable section

namespace Cert.KernelIdeal.Gen

open Idealize.ShloMosaic Idealize.ShloMosaic.TcCoe Idealize.ShloMosaic.Tactic
open Cert.KernelIdeal Cert.KernelIdeal.Tile Cert.Scalars
open Cert.ReferenceIdeal.Ref (col grE decE mR vR amaxR scR cdR dR szE lR)

variable (m : (ℓ : Loc nD τ sig) → Buf (Elt Ideal) ℓ) (hO : Ok m) (c : Dev nD)

/-- The argument arrays. -/
abbrev aW : FVec Ideal S5x128x5120 .f32 := m ((c : Thread nD τ).loc main_arg0)
abbrev aG : FVec Ideal S5x128x5120 .bf16 := m ((c : Thread nD τ).loc main_arg1)
abbrev aQ : FVec Ideal S5x128x128 .bf16 := m ((c : Thread nD τ).loc main_arg2)
abbrev aMc : IVec S5x128x5120 8 := m ((c : Thread nD τ).loc main_arg3)
abbrev aMs : FVec Ideal S5x128x20 .f32 := m ((c : Thread nD τ).loc main_arg4)
abbrev aVc : IVec S5x128x5120 8 := m ((c : Thread nD τ).loc main_arg5)
abbrev aVs : FVec Ideal S5x128x20 .f32 := m ((c : Thread nD τ).loc main_arg6)
abbrev aL : FVec Ideal S5x128x128 .f32 := m ((c : Thread nD τ).loc main_arg7)
abbrev aT : IVec S5 32 := m ((c : Thread nD τ).loc main_arg8)

/-- The moments over them. -/
abbrev mA : FVec Ideal Cert.ReferenceIdeal.S5x128x20x256 .f32 := mR (aQ m c) (aG m c) (aMc m c) (aMs m c)
abbrev vA : FVec Ideal Cert.ReferenceIdeal.S5x128x20x256 .f32 := vR (aQ m c) (aG m c) (aVc m c) (aVs m c)

theorem p5_val (b j : Fin 5) : (p5 m hO b.val j.val).val = 5 * b.val + j.val := by
  have := b.isLt; have := j.isLt
  show (5 * b.val + j.val) % 25 = _
  omega

theorem bt_p5 (b j : Fin 5) : bt m hO (p5 m hO b.val j.val) = b := by
  apply Fin.ext
  show (p5 m hO b.val j.val).val / 5 = b.val
  rw [p5_val]; have := j.isLt; omega

theorem cl_p5 (b j : Fin 5) (k : Fin 4) (l : Fin 256) (h) : cl m hO (p5 m hO b.val j.val) ⟨256 * k.val + l.val, h⟩ = col (ln j k) l := by
  apply Fin.ext
  show (p5 m hO b.val j.val).val % 5 * 1024 + (256 * k.val + l.val) = (4 * j.val + k.val) * 256 + l.val
  rw [p5_val]; have := j.isLt; omega

/-- A tile of a block at an index. -/
theorem sl_at {e : EltTy} (k : Fin 4) (x : Vec Ideal S1x128x1024 e) (r : Fin 128) (l : Fin 256) :
    sl k x (ix3 0 r l) = x (ix3 0 r ⟨256 * k.val + l.val, by have := k.isLt; have := l.isLt; omega⟩) := by
  unfold sl
  refine congrArg x ?_
  funext a; fin_cases a <;> apply Fin.ext <;> simp [Rect.emb_apply]

/-- The blocks hold quantisation block `4 j + k` of the entry's first moment, -/
theorem holdsM (b j : Fin 5) (k : Fin 4) (i i' : Fin 5) :
    Holds (aQ m c) (aG m c) (aMc m c) (aMs m c) b (ln j k) (B2 m hO c (p5 m hO b.val i.val)) (B4 m hO c (p5 m hO b.val i'.val))
      (sl k (B1 m hO c (p5 m hO b.val j.val))) (sl k (B3 m hO c (p5 m hO b.val j.val))) where
  hq r x := by rw [B2_at, bt_p5]
  hs r := by rw [B4_at, bt_p5]
  hg r l := by rw [sl_at, B1_at, bt_p5, cl_p5]
  hc r l := by rw [sl_at, B3_at, bt_p5, cl_p5]

/-- and of its second. -/
theorem holdsV (b j : Fin 5) (k : Fin 4) (i i' : Fin 5) :
    Holds (aQ m c) (aG m c) (aVc m c) (aVs m c) b (ln j k) (B2 m hO c (p5 m hO b.val i.val)) (B6 m hO c (p5 m hO b.val i'.val))
      (sl k (B1 m hO c (p5 m hO b.val j.val))) (sl k (B5 m hO c (p5 m hO b.val j.val))) where
  hq r x := by rw [B2_at, bt_p5]
  hs r := by rw [B6_at, bt_p5]
  hg r l := by rw [sl_at, B1_at, bt_p5, cl_p5]
  hc r l := by rw [sl_at, B5_at, bt_p5, cl_p5]

/-- The rotation's block is the same at every point of an entry. -/
theorem B2_p5 (b i j : Fin 5) : B2 m hO c (p5 m hO b.val i.val) = B2 m hO c (p5 m hO b.val j.val) := by
  funext y
  idx_vars y
  obtain rfl : y0 = 0 := Subsingleton.elim _ _
  rw [B2_at, B2_at, bt_p5, bt_p5]

theorem ln_div (n : Fin 20) : ln ⟨n.val / 4, by have := n.isLt; omega⟩ ⟨n.val % 4, Nat.mod_lt _ (by norm_num)⟩ = n :=
  Fin.ext (by show 4 * (n.val / 4) + n.val % 4 = n.val; omega)

/-- The blocks' maxima of the first moment, -/
theorem mxM_at (b : Fin 5) (r : Fin 128) (n : Fin 20) : mxM m hO c b.val (ix2 r n) = amaxR (F := Ideal) (Host.absf (mA m c)) (ix3 b r n) := by
  have h := (holdsM m hO c b ⟨n.val / 4, by have := n.isLt; omega⟩ ⟨n.val % 4, Nat.mod_lt _ (by norm_num)⟩ 0 0).ma (fun _ => (Scalar.ofBits (F := Ideal) .f32 0#32 : Ideal .f32)) r
  rw [← nt_ln, ln_div] at h
  exact h

/-- and of the second. -/
theorem mxV_at (b : Fin 5) (r : Fin 128) (n : Fin 20) : mxV m hO c b.val (ix2 r n) = amaxR (F := Ideal) (vA m c) (ix3 b r n) := by
  have h := (holdsV m hO c b ⟨n.val / 4, by have := n.isLt; omega⟩ ⟨n.val % 4, Nat.mod_lt _ (by norm_num)⟩ 0 0).va (fun _ => (Scalar.ofBits (F := Ideal) .f32 0#32 : Ideal .f32)) r
  rw [← nt_ln, ln_div] at h
  exact h

/-- A maximum becomes a scale. -/
theorem pay2_at (v : Vec Ideal S128x20 .f32) (r : Fin 128) (n : Fin 20) : k0_pay2 (F := Ideal) v (ix3 0 r n) = scl (v (ix2 r n)) := by
  rw [scl_eq, ← inv127]
  pointwise [k0_pay2]
  try rw [c_one, c_zero]

theorem pay3_at (v : Vec Ideal S128x20 .f32) (r : Fin 128) (n : Fin 20) : k0_pay3 (F := Ideal) v (ix3 0 r n) = scl (v (ix2 r n)) := by
  rw [scl_eq, ← inv127]
  pointwise [k0_pay3]
  try rw [c_one, c_zero]

/-- The Gram matrix gains one column block's products. -/
theorem pay9_at (x : Vec Ideal S128x128 .f32) (g : Vec Ideal S1x128x1024 .bf16) (r n : Fin 128) :
    k0_pay9 (F := Ideal) x g g (ix2 r n) = x (ix2 r n) + ∑ l : Fin 1024, g (ix3 0 r l) * g (ix3 0 n l) := by
  pointwise [k0_pay9]
  try rfl

theorem pay7_at (r n : Fin 128) : k0_pay7 (F := Ideal) (ix2 r n) = 0 := by
  pointwise [k0_pay7]

theorem pay1_at (x : Vec Ideal S1x128x128 .f32) (g : Vec Ideal S128x128 .f32) (r n : Fin 128) :
    k0_pay1 (F := Ideal) x g (ix3 0 r n) = Ideal.ofBits .f32 0x3F733333#32 * x (ix3 0 r n) + Ideal.ofBits .f32 0x3D4CCCD0#32 * g (ix2 r n) := by
  pointwise [k0_pay1]
  try rfl

/-- A sum over the columns by column blocks. -/
theorem sum_cols (f : Fin 5120 → EReal) : ∑ x : Fin 5120, f x = ∑ j : Fin 5, ∑ l : Fin 1024, f ⟨j.val * 1024 + l.val, by omega⟩ := by
  rw [← Fintype.sum_prod_type']
  refine (Fintype.sum_equiv (finProdFinEquiv (m := 5) (n := 1024)) _ _ fun p => ?_).symm
  refine congrArg f (Fin.ext ?_)
  show p.1.val * 1024 + p.2.val = p.2.val + 1024 * p.1.val
  omega

/-- The Gram matrix after an entry's five points. -/
theorem gg_at (b : Fin 5) (r n : Fin 128) : ggB m hO c b.val 5 (ix2 r n) = ∑ x : Fin 5120, aG m c (ix3 b r x) * aG m c (ix3 b n x) := by
  rw [sum_cols]
  have hs : ∀ j : Fin 5, ∀ y : Vec Ideal S128x128 .f32, k0_pay9 (F := Ideal) y (B1 m hO c (p5 m hO b.val j.val)) (B1 m hO c (p5 m hO b.val j.val)) (ix2 r n)
      = y (ix2 r n) + ∑ l : Fin 1024, aG m c (ix3 b r ⟨j.val * 1024 + l.val, by omega⟩) * aG m c (ix3 b n ⟨j.val * 1024 + l.val, by omega⟩) := by
    intro j y
    rw [pay9_at]
    have e : ∀ l : Fin 1024, cl m hO (p5 m hO b.val j.val) l = ⟨j.val * 1024 + l.val, by omega⟩ := fun l => Fin.ext (by
      show (p5 m hO b.val j.val).val % 5 * 1024 + l.val = j.val * 1024 + l.val
      rw [p5_val]; have := j.isLt; omega)
    simp only [B1_at, bt_p5, e]
  rw [Fin.sum_univ_five]
  show k0_pay9 (F := Ideal) (ggB m hO c b.val 4) (B1 m hO c (p5 m hO b.val (4 : Fin 5).val)) (B1 m hO c (p5 m hO b.val (4 : Fin 5).val)) (ix2 r n) = _
  rw [hs 4]
  refine congrArg (· + _) ?_
  show k0_pay9 (F := Ideal) (ggB m hO c b.val 3) (B1 m hO c (p5 m hO b.val (3 : Fin 5).val)) (B1 m hO c (p5 m hO b.val (3 : Fin 5).val)) (ix2 r n) = _
  rw [hs 3]
  refine congrArg (· + _) ?_
  show k0_pay9 (F := Ideal) (ggB m hO c b.val 2) (B1 m hO c (p5 m hO b.val (2 : Fin 5).val)) (B1 m hO c (p5 m hO b.val (2 : Fin 5).val)) (ix2 r n) = _
  rw [hs 2]
  refine congrArg (· + _) ?_
  show k0_pay9 (F := Ideal) (ggB m hO c b.val 1) (B1 m hO c (p5 m hO b.val (1 : Fin 5).val)) (B1 m hO c (p5 m hO b.val (1 : Fin 5).val)) (ix2 r n) = _
  rw [hs 1]
  refine congrArg (· + _) ?_
  show k0_pay9 (F := Ideal) (ggB m hO c b.val 0) (B1 m hO c (p5 m hO b.val (0 : Fin 5).val)) (B1 m hO c (p5 m hO b.val (0 : Fin 5).val)) (ix2 r n) = _
  rw [hs 0]
  show k0_pay7 (F := Ideal) (ix2 r n) + _ = _
  rw [pay7_at, zero_add]

theorem off1 (t : Fin grid0.N) : k0_off1 (grid0.coords t) = ![t.val / 5] :=
  (by decide +kernel : ∀ t : Fin grid0.N, k0_off1 (grid0.coords t) = ![t.val / 5]) t

/-- The step count a point reads. -/
theorem stepw_at (t : Fin (cfgM m hO).N) : stepw (F := Ideal) (c := c) (grid0.coords t) (tbl m 0) = aT m c (ix1 (bt m hO t)) := by
  obtain rfl : c = 0 := Subsingleton.elim _ _
  unfold stepw
  show (m (((0 : Dev nD) : Thread nD τ).loc main_arg8)) _ = _
  refine congrArg (m (((0 : Dev nD) : Thread nD τ).loc main_arg8)) ?_
  funext a
  apply Fin.ext
  fin_cases a
  show k0_off1 (grid0.coords t) 0 + _ = t.val / 5
  have h : k0_off1 (grid0.coords t) 0 = t.val / 5 := congrFun (off1 t) 0
  exact (congrArg (· + 0) h).trans rfl

end Cert.KernelIdeal.Gen
-- ==== Proof.V.Result.lean ====
/- The kernel's result arrays, whole: each window's blocks are those of the reference's term. -/
module

public import proofs.«01_k».proof.Proof.V.Values

@[expose] public section

set_option maxRecDepth 16384

noncomputable section

namespace Cert.KernelIdeal.Gen

open Idealize.ShloMosaic Idealize.ShloMosaic.TcCoe Idealize.ShloMosaic.Tactic
open Cert.KernelIdeal Cert.KernelIdeal.Tile Cert.Scalars
open Cert.ReferenceIdeal.Ref (col grE decE mR vR amaxR scR cdR dR szE lR)

variable (m : (ℓ : Loc nD τ sig) → Buf (Elt Ideal) ℓ) (hO : Ok m) (c : Dev nD)

/-- What the precondition says of the arrays: no step count is zero; every second moment is zero or a normal finite
    number; every block's maximum is zero or large enough for a normal scale. -/
structure Normal : Prop where
  ht : ∀ b : Fin 5, aT m c (ix1 b) ≠ 0#32
  hv : ∀ (b : Fin 5) (r : Fin 128) (n : Fin 20) (l : Fin 256), vA m c (ix4 b r n l) = 0 ∨ (((tiny : ℝ) : EReal) ≤ vA m c (ix4 b r n l) ∧ vA m c (ix4 b r n l) < ⊤)
  hm : ∀ (b : Fin 5) (r : Fin 128) (n : Fin 20), amaxR (F := Ideal) (Host.absf (mA m c)) (ix3 b r n) = 0 ∨ ((127 * tiny : ℝ) : EReal) ≤ amaxR (F := Ideal) (Host.absf (mA m c)) (ix3 b r n)
  ha : ∀ (b : Fin 5) (r : Fin 128) (n : Fin 20), amaxR (F := Ideal) (vA m c) (ix3 b r n) = 0 ∨ ((127 * tiny : ℝ) : EReal) ≤ amaxR (F := Ideal) (vA m c) (ix3 b r n)

variable {m c}

/-- The results, as the reference's terms. -/
abbrev RD : FVec Ideal S5x128x5120 .f32 := dR (aT m c) (aQ m c) (mA m c) (vA m c)
abbrev RW : FVec Ideal S5x128x5120 .f32 := addf (aW m c) (dR (aT m c) (aQ m c) (mA m c) (vA m c))

theorem p5_div (b j : Fin 5) : (p5 m hO b.val j.val).val / 5 = b.val := congrArg Fin.val (bt_p5 m hO b j)
theorem p5_mod (b j : Fin 5) : (p5 m hO b.val j.val).val % 5 = j.val := by
  rw [p5_val]; have := j.isLt; omega

/-- The tile of a block's column, and its column in the tile. -/
def xk (x : Fin 1024) : Fin 4 := ⟨x.val / 256, by omega⟩
def xl (x : Fin 1024) : Fin 256 := ⟨x.val % 256, Nat.mod_lt _ (by norm_num)⟩

theorem col_xk (b j : Fin 5) (x : Fin 1024) : col (ln j (xk x)) (xl x) = cl m hO (p5 m hO b.val j.val) x := by
  apply Fin.ext
  show (4 * j.val + x.val / 256) * 256 + x.val % 256 = (p5 m hO b.val j.val).val % 5 * 1024 + x.val
  rw [p5_mod]; omega

theorem stack_at {e : EltTy} (f : Fin 4 → Vec Ideal S1x128x256 e) (r : Fin 128) (x : Fin 1024) : stack f (ix3 0 r x) = f (xk x) (ix3 0 r (xl x)) := rfl

/-- Tile `k` of the weights' block. -/
theorem w_sl (b j : Fin 5) (r : Fin 128) (x : Fin 1024) : sl (xk x) (B0 m hO c (p5 m hO b.val j.val)) (ix3 0 r (xl x)) = aW m c (ix3 b r (cl m hO (p5 m hO b.val j.val) x)) := by
  rw [sl_at, B0_at, bt_p5, cl_p5, col_xk]

/-- Any point is a point of an entry. -/
theorem exists_p5 (t : Fin (cfgM m hO).N) : ∃ b j : Fin 5, t = p5 m hO b.val j.val :=
  ⟨⟨t.val / 5, by have := lt25 m hO t; omega⟩, ⟨t.val % 5, Nat.mod_lt _ (by norm_num)⟩, (p5_self m hO t).symm⟩

variable (H : Normal m c)
include H

/-- The updates' block, -/
theorem F9_at (b j : Fin 5) (r : Fin 128) (x : Fin 1024) : F9 m hO c (p5 m hO b.val j.val) (ix3 0 r x) = RD (m := m) (c := c) (ix3 b r (cl m hO (p5 m hO b.val j.val) x)) := by
  unfold F9 oD
  rw [stack_at, p5_div, p5_mod, nt_ln, ← col_xk]
  unfold qtB msB vsB
  rw [B2_p5 m hO c b j 0, pay6_eq]
  refine Holds.d (z := _) (z' := _) (holdsM m hO c b j (xk x) 0 0) (holdsV m hO c b j (xk x) 0 0) _ (aT m c) (fun l => ?_) (fun r l => H.hv b r _ l) r (xl x)
  unfold szB
  exact sz_at _ b _ (by rw [stepw_at, bt_p5]) (by rw [stepw_at, bt_p5]; exact H.ht b) l

omit H in
theorem F8_F9 (b j : Fin 5) (r : Fin 128) (x : Fin 1024) : F8 m hO c (p5 m hO b.val j.val) (ix3 0 r x) = aW m c (ix3 b r (cl m hO (p5 m hO b.val j.val) x)) + F9 m hO c (p5 m hO b.val j.val) (ix3 0 r x) := by
  unfold F8 F9 oW oD
  rw [stack_at, stack_at, w_at, w_sl]

/-- the weights', -/
theorem F8_at (b j : Fin 5) (r : Fin 128) (x : Fin 1024) : F8 m hO c (p5 m hO b.val j.val) (ix3 0 r x) = RW (m := m) (c := c) (ix3 b r (cl m hO (p5 m hO b.val j.val) x)) := by
  rw [F8_F9, F9_at hO H]
  rfl

/-- the first moment's codes', -/
theorem F11_at (b j : Fin 5) (r : Fin 128) (x : Fin 1024) : F11 m hO c (p5 m hO b.val j.val) (ix3 0 r x)
    = cdR (F := Ideal) 0xC2FE0000#32 (mA m c) (scR (amaxR (Host.absf (mA m c)))) (ix3 b r (cl m hO (p5 m hO b.val j.val) x)) := by
  unfold F11 oM
  rw [stack_at, p5_div, p5_mod, nt_ln, ← col_xk]
  unfold qtB msB
  exact Holds.mc (z := _) (holdsM m hO c b j (xk x) 0 0) (fun r => H.hm b r _) r (xl x)

/-- the second's, -/
theorem F13_at (b j : Fin 5) (r : Fin 128) (x : Fin 1024) : F13 m hO c (p5 m hO b.val j.val) (ix3 0 r x)
    = cdR (F := Ideal) 0x00000000#32 (vA m c) (scR (amaxR (vA m c))) (ix3 b r (cl m hO (p5 m hO b.val j.val) x)) := by
  unfold F13 oV
  rw [stack_at, p5_div, p5_mod, nt_ln, ← col_xk]
  unfold qtB vsB
  rw [pay6_eq]
  exact Holds.vc (z := _) (holdsV m hO c b j (xk x) 0 0) (fun r => H.ha b r _) (fun r l => (H.hv b r _ l).imp id And.left) r (xl x)

omit H

/-- their scales', -/
theorem F12_at (b j : Fin 5) (r : Fin 128) (n : Fin 20) : F12 m hO c (p5 m hO b.val j.val) (ix3 0 r n) = scR (F := Ideal) (amaxR (Host.absf (mA m c))) (ix3 b r n) := by
  unfold F12
  rw [pay2_at, p5_div, mxM_at, Cert.ReferenceIdeal.Ref.scR_at]

theorem F14_at (b j : Fin 5) (r : Fin 128) (n : Fin 20) : F14 m hO c (p5 m hO b.val j.val) (ix3 0 r n) = scR (F := Ideal) (amaxR (vA m c)) (ix3 b r n) := by
  unfold F14
  rw [pay3_at, p5_div, mxV_at, Cert.ReferenceIdeal.Ref.scR_at]

/-- and the left factor's. -/
theorem F10_at (b j : Fin 5) (r n : Fin 128) : F10 m hO c (p5 m hO b.val j.val) (ix3 0 r n) = lR (F := Ideal) (aG m c) (aL m c) (ix3 b r n) := by
  unfold F10
  rw [pay1_at, p5_div, gg_at, B7_at, bt_p5, Cert.ReferenceIdeal.Ref.lR_at]

/-- The point and the block's column of an array's column. -/
theorem cl_div (b : Fin 5) (x : Fin 5120) : cl m hO (p5 m hO b.val (⟨x.val / 1024, by omega⟩ : Fin 5).val) ⟨x.val % 1024, Nat.mod_lt _ (by norm_num)⟩ = x := by
  apply Fin.ext
  show (p5 m hO b.val (⟨x.val / 1024, by omega⟩ : Fin 5).val).val % 5 * 1024 + x.val % 1024 = x.val
  rw [p5_mod]
  show x.val / 1024 * 1024 + x.val % 1024 = x.val
  omega

/-! Every element of a result array is in the block of a point that writes it back. -/

theorem cover8 (i : S5x128x5120.Idx) : ∃ t : Fin (cfgM m hO).N, ((cfgM m hO).win 8).flush t = true ∧ i ∈ (((cfgM m hO).win 8).blk t).view.set := by
  idx_vars i
  refine ⟨p5 m hO i0.val (⟨i2.val / 1024, by have := i2.isLt; omega⟩ : Fin 5).val, flush0_8 _ _, ?_⟩
  have h := (((cfgM m hO).win 8).blk (p5 m hO i0.val (⟨i2.val / 1024, by have := i2.isLt; omega⟩ : Fin 5).val)).view.emb_mem_set (ix3 0 i1 (⟨i2.val % 1024, Nat.mod_lt _ (by norm_num)⟩ : Fin 1024))
  rw [emb8 m hO, bt_p5, cl_div] at h
  exact h

theorem cover9 (i : S5x128x5120.Idx) : ∃ t : Fin (cfgM m hO).N, ((cfgM m hO).win 9).flush t = true ∧ i ∈ (((cfgM m hO).win 9).blk t).view.set := by
  idx_vars i
  refine ⟨p5 m hO i0.val (⟨i2.val / 1024, by have := i2.isLt; omega⟩ : Fin 5).val, flush0_9 _ _, ?_⟩
  have h := (((cfgM m hO).win 9).blk (p5 m hO i0.val (⟨i2.val / 1024, by have := i2.isLt; omega⟩ : Fin 5).val)).view.emb_mem_set (ix3 0 i1 (⟨i2.val % 1024, Nat.mod_lt _ (by norm_num)⟩ : Fin 1024))
  rw [emb9 m hO, bt_p5, cl_div] at h
  exact h

theorem cover10 (i : S5x128x128.Idx) : ∃ t : Fin (cfgM m hO).N, ((cfgM m hO).win 10).flush t = true ∧ i ∈ (((cfgM m hO).win 10).blk t).view.set := by
  idx_vars i
  refine ⟨p5 m hO i0.val (4 : Fin 5).val, (flush0_10 _ _).mpr (p5_mod hO i0 4), ?_⟩
  have h := (((cfgM m hO).win 10).blk (p5 m hO i0.val (4 : Fin 5).val)).view.emb_mem_set (ix3 0 i1 i2)
  rw [emb10 m hO, bt_p5] at h
  exact h

theorem cover11 (i : S5x128x5120.Idx) : ∃ t : Fin (cfgM m hO).N, ((cfgM m hO).win 11).flush t = true ∧ i ∈ (((cfgM m hO).win 11).blk t).view.set := by
  idx_vars i
  refine ⟨p5 m hO i0.val (⟨i2.val / 1024, by have := i2.isLt; omega⟩ : Fin 5).val, flush0_11 _ _, ?_⟩
  have h := (((cfgM m hO).win 11).blk (p5 m hO i0.val (⟨i2.val / 1024, by have := i2.isLt; omega⟩ : Fin 5).val)).view.emb_mem_set (ix3 0 i1 (⟨i2.val % 1024, Nat.mod_lt _ (by norm_num)⟩ : Fin 1024))
  rw [emb11 m hO, bt_p5, cl_div] at h
  exact h

theorem cover12 (i : S5x128x20.Idx) : ∃ t : Fin (cfgM m hO).N, ((cfgM m hO).win 12).flush t = true ∧ i ∈ (((cfgM m hO).win 12).blk t).view.set := by
  idx_vars i
  refine ⟨p5 m hO i0.val (4 : Fin 5).val, (flush0_12 _ _).mpr (p5_mod hO i0 4), ?_⟩
  have h := (((cfgM m hO).win 12).blk (p5 m hO i0.val (4 : Fin 5).val)).view.emb_mem_set (ix3 0 i1 i2)
  rw [emb12 m hO, bt_p5] at h
  exact h

theorem cover13 (i : S5x128x5120.Idx) : ∃ t : Fin (cfgM m hO).N, ((cfgM m hO).win 13).flush t = true ∧ i ∈ (((cfgM m hO).win 13).blk t).view.set := by
  idx_vars i
  refine ⟨p5 m hO i0.val (⟨i2.val / 1024, by have := i2.isLt; omega⟩ : Fin 5).val, flush0_13 _ _, ?_⟩
  have h := (((cfgM m hO).win 13).blk (p5 m hO i0.val (⟨i2.val / 1024, by have := i2.isLt; omega⟩ : Fin 5).val)).view.emb_mem_set (ix3 0 i1 (⟨i2.val % 1024, Nat.mod_lt _ (by norm_num)⟩ : Fin 1024))
  rw [emb13 m hO, bt_p5, cl_div] at h
  exact h

theorem cover14 (i : S5x128x20.Idx) : ∃ t : Fin (cfgM m hO).N, ((cfgM m hO).win 14).flush t = true ∧ i ∈ (((cfgM m hO).win 14).blk t).view.set := by
  idx_vars i
  refine ⟨p5 m hO i0.val (4 : Fin 5).val, (flush0_14 _ _).mpr (p5_mod hO i0 4), ?_⟩
  have h := (((cfgM m hO).win 14).blk (p5 m hO i0.val (4 : Fin 5).val)).view.emb_mem_set (ix3 0 i1 i2)
  rw [emb14 m hO, bt_p5] at h
  exact h

/-! The final arrays. -/

theorem arr8 (H : Normal m c) : (dats m hO 0 c).arrAt 8 (cfgM m hO).N = RW (m := m) (c := c) := by
  refine (dats m hO 0 c).arrAt_eq_of_emb 8 _ (fun t hf y => ?_) (cover8 hO)
  obtain ⟨b, j, rfl⟩ := exists_p5 hO t
  obtain ⟨r, x, rfl⟩ : ∃ (r : Fin 128) (x : Fin 1024), y = ix3 0 r x := by
    refine ⟨y (1 : Fin 3), y (2 : Fin 3), ?_⟩
    funext a
    fin_cases a
    · exact Subsingleton.elim (α := Fin 1) _ _
    · rfl
    · rfl
  show (dats m hO 0 c).after 8 (p5 m hO b.val j.val) (ix3 0 r x) = _
  rw [after0_8, emb8 m hO, bt_p5]
  exact F8_at hO H b j r x

theorem arr9 (H : Normal m c) : (dats m hO 0 c).arrAt 9 (cfgM m hO).N = RD (m := m) (c := c) := by
  refine (dats m hO 0 c).arrAt_eq_of_emb 9 _ (fun t hf y => ?_) (cover9 hO)
  obtain ⟨b, j, rfl⟩ := exists_p5 hO t
  obtain ⟨r, x, rfl⟩ : ∃ (r : Fin 128) (x : Fin 1024), y = ix3 0 r x := by
    refine ⟨y (1 : Fin 3), y (2 : Fin 3), ?_⟩
    funext a
    fin_cases a
    · exact Subsingleton.elim (α := Fin 1) _ _
    · rfl
    · rfl
  show (dats m hO 0 c).after 9 (p5 m hO b.val j.val) (ix3 0 r x) = _
  rw [after0_9, emb9 m hO, bt_p5]
  exact F9_at hO H b j r x

theorem arr10 : (dats m hO 0 c).arrAt 10 (cfgM m hO).N = lR (F := Ideal) (aG m c) (aL m c) := by
  refine (dats m hO 0 c).arrAt_eq_of_emb 10 _ (fun t hf y => ?_) (cover10 hO)
  obtain ⟨b, j, rfl⟩ := exists_p5 hO t
  obtain ⟨r, x, rfl⟩ : ∃ (r : Fin 128) (x : Fin 128), y = ix3 0 r x := by
    refine ⟨y (1 : Fin 3), y (2 : Fin 3), ?_⟩
    funext a
    fin_cases a
    · exact Subsingleton.elim (α := Fin 1) _ _
    · rfl
    · rfl
  show (dats m hO 0 c).after 10 (p5 m hO b.val j.val) (ix3 0 r x) = _
  rw [after0_10, emb10 m hO, bt_p5]
  exact F10_at hO b j r x

theorem arr11 (H : Normal m c) : (dats m hO 0 c).arrAt 11 (cfgM m hO).N = cdR (F := Ideal) 0xC2FE0000#32 (mA m c) (scR (amaxR (Host.absf (mA m c)))) := by
  refine (dats m hO 0 c).arrAt_eq_of_emb 11 _ (fun t hf y => ?_) (cover11 hO)
  obtain ⟨b, j, rfl⟩ := exists_p5 hO t
  obtain ⟨r, x, rfl⟩ : ∃ (r : Fin 128) (x : Fin 1024), y = ix3 0 r x := by
    refine ⟨y (1 : Fin 3), y (2 : Fin 3), ?_⟩
    funext a
    fin_cases a
    · exact Subsingleton.elim (α := Fin 1) _ _
    · rfl
    · rfl
  show (dats m hO 0 c).after 11 (p5 m hO b.val j.val) (ix3 0 r x) = _
  rw [after0_11, emb11 m hO, bt_p5]
  exact F11_at hO H b j r x

theorem arr12 : (dats m hO 0 c).arrAt 12 (cfgM m hO).N = scR (F := Ideal) (amaxR (Host.absf (mA m c))) := by
  refine (dats m hO 0 c).arrAt_eq_of_emb 12 _ (fun t hf y => ?_) (cover12 hO)
  obtain ⟨b, j, rfl⟩ := exists_p5 hO t
  obtain ⟨r, x, rfl⟩ : ∃ (r : Fin 128) (x : Fin 20), y = ix3 0 r x := by
    refine ⟨y (1 : Fin 3), y (2 : Fin 3), ?_⟩
    funext a
    fin_cases a
    · exact Subsingleton.elim (α := Fin 1) _ _
    · rfl
    · rfl
  show (dats m hO 0 c).after 12 (p5 m hO b.val j.val) (ix3 0 r x) = _
  rw [after0_12, emb12 m hO, bt_p5]
  exact F12_at hO b j r x

theorem arr13 (H : Normal m c) : (dats m hO 0 c).arrAt 13 (cfgM m hO).N = cdR (F := Ideal) 0x00000000#32 (vA m c) (scR (amaxR (vA m c))) := by
  refine (dats m hO 0 c).arrAt_eq_of_emb 13 _ (fun t hf y => ?_) (cover13 hO)
  obtain ⟨b, j, rfl⟩ := exists_p5 hO t
  obtain ⟨r, x, rfl⟩ : ∃ (r : Fin 128) (x : Fin 1024), y = ix3 0 r x := by
    refine ⟨y (1 : Fin 3), y (2 : Fin 3), ?_⟩
    funext a
    fin_cases a
    · exact Subsingleton.elim (α := Fin 1) _ _
    · rfl
    · rfl
  show (dats m hO 0 c).after 13 (p5 m hO b.val j.val) (ix3 0 r x) = _
  rw [after0_13, emb13 m hO, bt_p5]
  exact F13_at hO H b j r x

theorem arr14 : (dats m hO 0 c).arrAt 14 (cfgM m hO).N = scR (F := Ideal) (amaxR (vA m c)) := by
  refine (dats m hO 0 c).arrAt_eq_of_emb 14 _ (fun t hf y => ?_) (cover14 hO)
  obtain ⟨b, j, rfl⟩ := exists_p5 hO t
  obtain ⟨r, x, rfl⟩ : ∃ (r : Fin 128) (x : Fin 20), y = ix3 0 r x := by
    refine ⟨y (1 : Fin 3), y (2 : Fin 3), ?_⟩
    funext a
    fin_cases a
    · exact Subsingleton.elim (α := Fin 1) _ _
    · rfl
    · rfl
  show (dats m hO 0 c).after 14 (p5 m hO b.val j.val) (ix3 0 r x) = _
  rw [after0_14, emb14 m hO, bt_p5]
  exact F14_at hO b j r x

/-- The argument arrays end as they were. -/
theorem args_of (m : (ℓ : Loc nD τ sig) → Buf (Elt Ideal) ℓ) (hO : Ok m) {r : PUnit.{1} × MemSt nD τ sig (Elt Ideal)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).1 6).trans (((dats m hO 0 c).arrAt_in 6 rfl _).trans ((A_eq m hO c 6).trans (V_main_arg6 m c))),
    ((h c).1 7).trans (((dats m hO 0 c).arrAt_in 7 rfl _).trans ((A_eq m hO c 7).trans (V_main_arg7 m c))),
    ((h c).2 main_arg8 (by decide : main_arg8 ∈ Pipeline.restRefs sig spec0)).trans (V_main_arg8 m c)⟩

end Cert.KernelIdeal.Gen
-- ==== Proof.V.Pre.lean ====
/- What the precondition says of the arrays, read off its printed function. -/
module

public import proofs.«01_k».proof.Proof.V.Result
public import proofs.«01_k».proof.Proof.Gen.Pre_normal_moments
public import proofs.«01_k».proof.Defs

@[expose] public section

set_option maxRecDepth 16384

noncomputable section

namespace Cert.KernelIdeal.Gen

open Idealize.ShloMosaic Idealize.ShloMosaic.TcCoe
open Cert.KernelIdeal Cert.Scalars
open Cert.ReferenceIdeal.Ref (mR vR amaxR)

/-- One-bit disjunction and conjunction. -/
theorem or_one (a b : BitVec 1) (h : a ||| b = 1#1) : a = 1#1 ∨ b = 1#1 := by revert a b; decide
theorem and_one (a b : BitVec 1) (h : a &&& b = 1#1) : a = 1#1 ∧ b = 1#1 := by revert a b; decide
theorem of_one {p : Prop} [Decidable p] (h : BitVec.ofBool (decide p) = 1#1) : p := by
  by_contra hp
  rw [decide_eq_false hp] at h
  exact absurd h (by decide)

/-- Zero, or between the two constants. -/
theorem range_of (x : EReal) (h : Ideal.cmp .oeq x (Ideal.ofBits .f32 0x00000000#32) ||| (Ideal.cmp .oge x (Ideal.ofBits .f32 0x00800000#32) &&& Ideal.cmp .olt x (Ideal.ofBits .f32 0x7F800000#32)) = 1#1) :
    x = 0 ∨ (((tiny : ℝ) : EReal) ≤ x ∧ x < ⊤) := by
  rw [c_zero, c_tiny, c_top] at h
  rcases or_one _ _ h with h | h
  · exact Or.inl (of_one h)
  · exact Or.inr ⟨of_one (and_one _ _ h).1, of_one (and_one _ _ h).2⟩

/-- Zero, or at least the constant. -/
theorem large_of (x : EReal) (h : Ideal.cmp .oeq x (Ideal.ofBits .f32 0x00000000#32) ||| Ideal.cmp .oge x (Ideal.ofBits .f32 0x03FE0000#32) = 1#1) :
    x = 0 ∨ ((127 * tiny : ℝ) : EReal) ≤ x := by
  rw [c_zero, c_127tiny] at h
  rcases or_one _ _ h with h | h
  · exact Or.inl (of_one h)
  · exact Or.inr (of_one h)

variable (w : FVec Ideal S5x128x5120 .f32) (g : FVec Ideal S5x128x5120 .bf16) (q : FVec Ideal S5x128x128 .bf16) (mc : IVec S5x128x5120 8) (ms : FVec Ideal S5x128x20 .f32)
  (vc : IVec S5x128x5120 8) (vs : FVec Ideal S5x128x20 .f32) (l : FVec Ideal S5x128x128 .f32) (st : IVec S5 32)

/-- The function's four results at an index. -/
theorem pre_step (b : Fin 5) : (Cert.Pre_normal_moments.fn (F := Ideal) w g q mc ms vc vs l st).1 (ix1 b) = BitVec.ofBool (st (ix1 b) != 0#32) := rfl

theorem pre_v (i) : (Cert.Pre_normal_moments.fn (F := Ideal) w g q mc ms vc vs l st).2.1 i
    = Ideal.cmp .oeq (vR (F := Ideal) q g vc vs i) (Ideal.ofBits .f32 0x00000000#32) ||| (Ideal.cmp .oge (vR (F := Ideal) q g vc vs i) (Ideal.ofBits .f32 0x00800000#32) &&& Ideal.cmp .olt (vR (F := Ideal) q g vc vs i) (Ideal.ofBits .f32 0x7F800000#32)) := rfl

/-- The test of a block's maximum. -/
def large (a : FVec Ideal Cert.Pre_normal_moments.S5x128x20 .f32) : IVec Cert.Pre_normal_moments.S5x128x20 1 :=
  ori (cmpf .oeq a (broadcastInDim Cert.Pre_normal_moments.S5x128x20 ![] Cert.Pre_normal_moments.Gen.bcast_S_S5x128x20 (constant Cert.Pre_normal_moments.S_ .f32 0x00000000#32)))
    (cmpf .oge a (broadcastInDim Cert.Pre_normal_moments.S5x128x20 ![] Cert.Pre_normal_moments.Gen.bcast_S_S5x128x20 (constant Cert.Pre_normal_moments.S_ .f32 0x03FE0000#32)))

theorem large_at (a : FVec Ideal Cert.Pre_normal_moments.S5x128x20 .f32) (i) : large a i = Ideal.cmp .oeq (a i) (Ideal.ofBits .f32 0x00000000#32) ||| Ideal.cmp .oge (a i) (Ideal.ofBits .f32 0x03FE0000#32) := rfl

theorem pre_m : (Cert.Pre_normal_moments.fn (F := Ideal) w g q mc ms vc vs l st).2.2.1 = large (amaxR (F := Ideal) (Host.absf (mR q g mc ms))) := by
  unfold Cert.Pre_normal_moments.fn Cert.Pre_normal_moments.fn_part1 Cert.Pre_normal_moments.fn_part2
  refine congrArg large ?_
  unfold amaxR
  refine congrArg (fun x => Host.reduce FloatOps.maximumf x (constant Cert.Pre_normal_moments.S_ .f32 0xFF800000#32) Cert.Pre_normal_moments.Gen.reducesTo_S5x128x20x256_S5x128x20_d3 Cert.Pre_normal_moments.Gen.h_S_) ?_
  rfl

theorem pre_a : (Cert.Pre_normal_moments.fn (F := Ideal) w g q mc ms vc vs l st).2.2.2 = large (amaxR (F := Ideal) (vR q g vc vs)) := by
  unfold Cert.Pre_normal_moments.fn Cert.Pre_normal_moments.fn_part1 Cert.Pre_normal_moments.fn_part2
  refine congrArg large ?_
  unfold amaxR
  refine congrArg (fun x => Host.reduce FloatOps.maximumf x (constant Cert.Pre_normal_moments.S_ .f32 0xFF800000#32) Cert.Pre_normal_moments.Gen.reducesTo_S5x128x20x256_S5x128x20_d3 Cert.Pre_normal_moments.Gen.h_S_) ?_
  rfl

/-- The precondition in the arrays' terms. -/
theorem normal_of_pre (m : (ℓ : Loc nD τ sig) → Buf (Elt Ideal) ℓ) (h : Cert.Pre_KernelIdeal_normal_moments m) (c : Dev nD) : Normal m c := by
  obtain ⟨h1, h2, h3, h4⟩ := h c
  refine ⟨fun b e => ?_, fun b r n l => ?_, fun b r n => ?_, fun b r n => ?_⟩
  · have h := (pre_step (aW m c) (aG m c) (aQ m c) (aMc m c) (aMs m c) (aVc m c) (aVs m c) (aL m c) (aT m c) b).symm.trans (congrFun h1 (ix1 b))
    rw [e] at h
    exact absurd h (by decide)
  · exact range_of _ ((pre_v (aW m c) (aG m c) (aQ m c) (aMc m c) (aMs m c) (aVc m c) (aVs m c) (aL m c) (aT m c) (ix4 b r n l)).symm.trans (congrFun h2 (ix4 b r n l)))
  · exact large_of _ ((large_at _ _).symm.trans (congrFun ((pre_m (aW m c) (aG m c) (aQ m c) (aMc m c) (aMs m c) (aVc m c) (aVs m c) (aL m c) (aT m c)).symm.trans h3) (ix3 b r n)))
  · exact large_of _ ((large_at _ _).symm.trans (congrFun ((pre_a (aW m c) (aG m c) (aQ m c) (aMc m c) (aMs m c) (aVc m c) (aVs m c) (aL m c) (aT m c)).symm.trans h4) (ix3 b r n)))

end Cert.KernelIdeal.Gen
-- ==== Proof.lean ====
/- The claims, assembled: the frames of the kernel as traced, of its ideal form and of the reference; what the named
   constants stand for; and the ideal kernel's seven results, equal to the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_normal_moments
public import proofs.«01_k».proof.Proof.P.Frame
public import proofs.«01_k».proof.Proof.V.Pre
public import Idealize.ShloMosaic.Adequacy
public import Idealize.ShloMosaic.Init

@[expose] public section

noncomputable section

namespace Cert.Proof

open Idealize.ShloMosaic Idealize.SL.Sem Cert.Kernel
open Cert.ReferenceIdeal.Ref (mM vM scR amaxR cdR lR dR)
open Cert.KernelIdeal.Gen (aW aG aQ aMc aMs aVc aVs aL aT mA vA RD RW)

/-- The reference's run from a memory holding the kernel's arrays: its results over those arrays. -/
theorem reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = aQ m c)
    (h1 : m' ((c.tc : Thread Cert.ReferenceIdeal.nD Cert.ReferenceIdeal.τ).loc Cert.ReferenceIdeal.main_arg1) = aG m c)
    (h3 : m' ((c.tc : Thread Cert.ReferenceIdeal.nD Cert.ReferenceIdeal.τ).loc Cert.ReferenceIdeal.main_arg3) = aMc m c)
    (h4 : m' ((c.tc : Thread Cert.ReferenceIdeal.nD Cert.ReferenceIdeal.τ).loc Cert.ReferenceIdeal.main_arg4) = aMs m c)
    (h5 : m' ((c.tc : Thread Cert.ReferenceIdeal.nD Cert.ReferenceIdeal.τ).loc Cert.ReferenceIdeal.main_arg5) = aVc m c)
    (h6 : m' ((c.tc : Thread Cert.ReferenceIdeal.nD Cert.ReferenceIdeal.τ).loc Cert.ReferenceIdeal.main_arg6) = aVs m c) :
    mM m' c = mA m c ∧ vM m' c = vA m c := by
  unfold mM vM
  rw [h1, h2, h3, h4, h5, h6]
  exact ⟨rfl, rfl⟩

/-- The ideal kernel's results are the reference's. -/
theorem algebraic : Cert.algebraic_KernelIdeal_ReferenceIdeal_pre_normal_moments := by
  intro m g m' g' hpre hag
  have H := Cert.KernelIdeal.Gen.normal_of_pre m hpre
  refine ⟨fun c => RW (m := m) (c := c), fun c => RD (m := m) (c := c), fun c => lR (F := Ideal) (aG m c) (aL m c),
    fun c => cdR (F := Ideal) 0xC2FE0000#32 (mA m c) (scR (amaxR (Host.absf (mA m c)))), fun c => scR (F := Ideal) (amaxR (Host.absf (mA m c))),
    fun c => cdR (F := Ideal) 0x00000000#32 (vA m c) (scR (amaxR (vA m c))), fun c => scR (F := Ideal) (amaxR (vA m c)), ?_, ?_⟩
  · refine (θ_run Cert.KernelIdeal.defs _ _).mono (fun r h c => ?_) (Cert.KernelIdeal.Gen.run_main m g trivial)
    exact ⟨((h c).1 8).trans (Cert.KernelIdeal.Gen.arr8 trivial (H c)), ((h c).1 9).trans (Cert.KernelIdeal.Gen.arr9 trivial (H c)),
      ((h c).1 10).trans (Cert.KernelIdeal.Gen.arr10 trivial), ((h c).1 11).trans (Cert.KernelIdeal.Gen.arr11 trivial (H c)),
      ((h c).1 12).trans (Cert.KernelIdeal.Gen.arr12 trivial), ((h c).1 13).trans (Cert.KernelIdeal.Gen.arr13 trivial (H c)),
      ((h c).1 14).trans (Cert.KernelIdeal.Gen.arr14 trivial), Cert.KernelIdeal.Gen.args_of m trivial h c⟩
  · refine (θ_run Cert.ReferenceIdeal.defs _ _).mono (fun r h c => ?_) (Cert.ReferenceIdeal.Ref.run (F := Ideal) m' g')
    obtain ⟨a0, a1, a2, a3, a4, a5, a6, a7, a8⟩ := hag c
    obtain ⟨em, ev⟩ := reference m m' c a2 a1 a3 a4 a5 a6
    obtain ⟨r0, r1, r2, r3, r4, r5, r6, rest⟩ := h c
    rw [em, ev] at r0 r1
    rw [em] at r3 r4
    rw [ev] at r5 r6
    rw [a0, a8, a2] at r0
    rw [a8, a2] at r1
    rw [a1, a7] at r2
    exact ⟨r0, r1, r2, r3, r4, r5, r6, rest⟩

/-- The reference runs, leaves its arguments and no counter. -/
theorem reference_frame : Cert.quiescent_ReferenceIdeal := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_normal_moments.Gen.facts,
  fun m ρ _ => Cert.Kernel.Gen.frame m ρ trivial,
  fun m ρ _ => Cert.KernelIdeal.Gen.frame m ρ trivial,
  fun m ρ _ => Cert.KernelIdeal.Gen.frame m ρ trivial,
  reference_frame,
  fun m ρ _ => reference_frame m ρ trivial,
  ⟨IdealRules.named_const.statement Cert.KernelIdeal.κ "log_decay" .f32 0xBD5218EE#32 _ rfl,
    IdealRules.named_const.statement Cert.KernelIdeal.κ "inv_127" .f32 0x3C010204#32 _ rfl⟩,
  algebraic⟩

end Cert.Proof

end
